-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_apart_and_finite [hPre_apart_and_finite : Cert.Pre_apart_and_finite.Facts] (m : (ℓ : Loc Cert.KernelIdeal.nD Cert.KernelIdeal.τ Cert.KernelIdeal.sig) → Buf (Elt Ideal) ℓ) : Prop :=
  ∀ c : Dev Cert.KernelIdeal.nD,
    (Cert.Pre_apart_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).1 = (fun _ => 1#1)
    ∧ (Cert.Pre_apart_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.1 = (fun _ => 1#1)
    ∧ (Cert.Pre_apart_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.1 = (fun _ => 1#1)
    ∧ (Cert.Pre_apart_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.1 = (fun _ => 1#1)
    ∧ (Cert.Pre_apart_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.1 = (fun _ => 1#1)
    ∧ (Cert.Pre_apart_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.1 = (fun _ => 1#1)
    ∧ (Cert.Pre_apart_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.1 = (fun _ => 1#1)
    ∧ (Cert.Pre_apart_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.1 = (fun _ => 1#1)
    ∧ (Cert.Pre_apart_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.2.1 = (fun _ => 1#1)
    ∧ (Cert.Pre_apart_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_apart_and_finite [hPre_apart_and_finite : Cert.Pre_apart_and_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_apart_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).1 = (fun _ => 1#1)
    ∧ (Cert.Pre_apart_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.1 = (fun _ => 1#1)
    ∧ (Cert.Pre_apart_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.1 = (fun _ => 1#1)
    ∧ (Cert.Pre_apart_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.1 = (fun _ => 1#1)
    ∧ (Cert.Pre_apart_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.1 = (fun _ => 1#1)
    ∧ (Cert.Pre_apart_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.1 = (fun _ => 1#1)
    ∧ (Cert.Pre_apart_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.1 = (fun _ => 1#1)
    ∧ (Cert.Pre_apart_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2.1 = (fun _ => 1#1)
    ∧ (Cert.Pre_apart_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2.2.1 = (fun _ => 1#1)
    ∧ (Cert.Pre_apart_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_apart_and_finite [hKernelIdeal : Cert.KernelIdeal.Facts] [hPre_apart_and_finite : Cert.Pre_apart_and_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_apart_and_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_apart_and_finite [hReferenceIdeal : Cert.ReferenceIdeal.Facts] [hPre_apart_and_finite : Cert.Pre_apart_and_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_apart_and_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal_pre_apart_and_finite [hKernelIdeal : Cert.KernelIdeal.Facts] [hReferenceIdeal : Cert.ReferenceIdeal.Facts] [hPre_apart_and_finite : Cert.Pre_apart_and_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_apart_and_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_apart_and_finite : Cert.Pre_apart_and_finite.Facts),
    quiescent_Kernel (hKernel := hKernel)
    ∧ quiescent_KernelIdeal (hKernelIdeal := hKernelIdeal)
    ∧ quiescent_KernelIdeal_pre_apart_and_finite (hKernelIdeal := hKernelIdeal) (hPre_apart_and_finite := hPre_apart_and_finite)
    ∧ quiescent_ReferenceIdeal (hReferenceIdeal := hReferenceIdeal)
    ∧ quiescent_ReferenceIdeal_pre_apart_and_finite (hReferenceIdeal := hReferenceIdeal) (hPre_apart_and_finite := hPre_apart_and_finite)
    ∧ preserves_Kernel_KernelIdeal
    ∧ algebraic_KernelIdeal_ReferenceIdeal_pre_apart_and_finite (hKernelIdeal := hKernelIdeal) (hReferenceIdeal := hReferenceIdeal) (hPre_apart_and_finite := hPre_apart_and_finite)
-- ==== Pre_apart_and_finite.lean ====
abbrev S4x8192x3 : Shape := ⟨3, ![4, 8192, 3]⟩
abbrev S4x2048x3 : Shape := ⟨3, ![4, 2048, 3]⟩
abbrev S4x64x8192 : Shape := ⟨3, ![4, 64, 8192]⟩
abbrev S4x128x2048 : Shape := ⟨3, ![4, 128, 2048]⟩
abbrev S128x192 : Shape := ⟨2, ![128, 192]⟩
abbrev S128 : Shape := ⟨1, ![128]⟩
abbrev S128x128 : Shape := ⟨2, ![128, 128]⟩
abbrev S_ : Shape := ⟨0, ![]⟩
abbrev S4x8192 : Shape := ⟨2, ![4, 8192]⟩
abbrev S4x8192x1 : Shape := ⟨3, ![4, 8192, 1]⟩
abbrev S4x2048 : Shape := ⟨2, ![4, 2048]⟩
abbrev S4x1x2048 : Shape := ⟨3, ![4, 1, 2048]⟩
abbrev S4x8192x2048 : Shape := ⟨3, ![4, 8192, 2048]⟩
abbrev S4x8192x4 : Shape := ⟨3, ![4, 8192, 4]⟩

class Facts : Prop where
  reducesTo_S4x8192x3_S4x8192_d2 : S4x8192x3.ReducesTo [2] S4x8192
  h_S_ : 0 < S_.numel
  bcast_S4x8192_S4x8192x1_0_1 : S4x8192.BroadcastsInDim S4x8192x1 (![0, 1] : Fin 2 → Fin S4x8192x1.rank)
  reducesTo_S4x2048x3_S4x2048_d2 : S4x2048x3.ReducesTo [2] S4x2048
  bcast_S4x2048_S4x1x2048_0_2 : S4x2048.BroadcastsInDim S4x1x2048 (![0, 2] : Fin 2 → Fin S4x1x2048.rank)
  bcast_S4x8192x1_S4x8192x2048_0_1_2 : S4x8192x1.BroadcastsInDim S4x8192x2048 (![0, 1, 2] : Fin 3 → Fin S4x8192x2048.rank)
  bcast_S4x1x2048_S4x8192x2048_0_1_2 : S4x1x2048.BroadcastsInDim S4x8192x2048 (![0, 1, 2] : Fin 3 → Fin S4x8192x2048.rank)
  bcast_S_S4x8192x2048 : S_.BroadcastsInDim S4x8192x2048 (![] : Fin 0 → Fin S4x8192x2048.rank)
  sliceFits_S4x8192x2048_S4x8192x4 : S4x8192x2048.Slices (fun _ => 0) S4x8192x4
  slices_S4x8192x4_S4x8192x3_0_0_0 : S4x8192x4.Slices ![0, 0, 0] S4x8192x3
  slices_S4x8192x4_S4x8192x3_0_0_1 : S4x8192x4.Slices ![0, 0, 1] S4x8192x3
  bcast_S_S4x64x8192 : S_.BroadcastsInDim S4x64x8192 (![] : Fin 0 → Fin S4x64x8192.rank)
  bcast_S_S4x128x2048 : S_.BroadcastsInDim S4x128x2048 (![] : Fin 0 → Fin S4x128x2048.rank)
  bcast_S_S128x192 : S_.BroadcastsInDim S128x192 (![] : Fin 0 → Fin S128x192.rank)
  bcast_S_S128 : S_.BroadcastsInDim S128 (![] : Fin 0 → Fin S128.rank)
  bcast_S_S128x128 : S_.BroadcastsInDim S128x128 (![] : Fin 0 → Fin S128x128.rank)
  dot_S4x8192x3_S4x2048x3_S4x8192x2048_2_2_1_1_0_0_wf : DotDims.WF S4x8192x3 S4x2048x3 S4x8192x2048 [2] [2] [1] [1] [0] [0]

variable [Facts]

def dot_S4x8192x3_S4x2048x3_S4x8192x2048_2_2_1_1_0_0 : DotDims S4x8192x3 S4x2048x3 S4x8192x2048 where
  lhsContracting := [2]
  rhsContracting := [2]
  lhsNonContracting := [1]
  rhsNonContracting := [1]
  lhsBatch := [0]
  rhsBatch := [0]
  wf := dot_S4x8192x3_S4x2048x3_S4x8192x2048_2_2_1_1_0_0_wf
def fn_part2 {F : FTy → Type} [FloatOps F] (main_arg8 : FVec F S128x128 .f32) (main_arg9 : FVec F S128 .f32) (main_arg10 : FVec F S128 .f32) (main_v19 : IVec S4x8192x3 1) (main_v22 : IVec S4x64x8192 1) (main_v25 : IVec S4x128x2048 1) (main_v28 : IVec S128x192 1) (main_v31 : IVec S128 1) (main_v34 : IVec S128 1) (main_v35 : FVec F S128 .f32) (main_cst_8 : FVec F S_ .f32) : IVec S4x8192x3 1 × IVec S4x64x8192 1 × IVec S4x128x2048 1 × IVec S128x192 1 × IVec S128 1 × IVec S128 1 × IVec S128 1 × IVec S128x128 1 × IVec S128 1 × IVec S128 1 :=
  let main_v36 : FVec F S128 .f32 := broadcastInDim S128 ![] bcast_S_S128 main_cst_8
  let main_v37 : IVec S128 1 := cmpf .olt main_v35 main_v36
  let main_v38 : FVec F S128x128 .f32 := Host.absf main_arg8
  let main_cst_9 : FVec F S_ .f32 := constant S_ .f32 0x7F800000#32
  let main_v39 : FVec F S128x128 .f32 := broadcastInDim S128x128 ![] bcast_S_S128x128 main_cst_9
  let main_v40 : IVec S128x128 1 := cmpf .olt main_v38 main_v39
  let main_v41 : FVec F S128 .f32 := Host.absf main_arg9
  let main_cst_10 : FVec F S_ .f32 := constant S_ .f32 0x7F800000#32
  let main_v42 : FVec F S128 .f32 := broadcastInDim S128 ![] bcast_S_S128 main_cst_10
  let main_v43 : IVec S128 1 := cmpf .olt main_v41 main_v42
  let main_v44 : FVec F S128 .f32 := Host.absf main_arg10
  let main_cst_11 : FVec F S_ .f32 := constant S_ .f32 0x7F800000#32
  let main_v45 : FVec F S128 .f32 := broadcastInDim S128 ![] bcast_S_S128 main_cst_11
  let main_v46 : IVec S128 1 := cmpf .olt main_v44 main_v45
  (main_v19, main_v22, main_v25, main_v28, main_v31, main_v34, main_v37, main_v40, main_v43, main_v46)

def fn_part1 {F : FTy → Type} [FloatOps F] (main_arg2 : FVec F S4x64x8192 .f32) (main_arg3 : FVec F S4x128x2048 .f32) (main_arg4 : FVec F S128x192 .f32) (main_arg5 : FVec F S128 .f32) (main_arg6 : FVec F S128 .f32) (main_arg7 : FVec F S128 .f32) (main_arg8 : FVec F S128x128 .f32) (main_arg9 : FVec F S128 .f32) (main_arg10 : FVec F S128 .f32) (main_values : FVec F S4x8192x4 .f32) (main_v17 : FVec F S4x8192x3 .f32) : IVec S4x8192x3 1 × IVec S4x64x8192 1 × IVec S4x128x2048 1 × IVec S128x192 1 × IVec S128 1 × IVec S128 1 × IVec S128 1 × IVec S128x128 1 × IVec S128 1 × IVec S128 1 :=
  let main_v18 : FVec F S4x8192x3 .f32 := (extractStridedSlice S4x8192x3 ![0, 0, 1] · slices_S4x8192x4_S4x8192x3_0_0_1) main_values
  let main_v19 : IVec S4x8192x3 1 := cmpf .ogt main_v17 main_v18
  let main_v20 : FVec F S4x64x8192 .f32 := Host.absf main_arg2
  let main_cst_3 : FVec F S_ .f32 := constant S_ .f32 0x7F800000#32
  let main_v21 : FVec F S4x64x8192 .f32 := broadcastInDim S4x64x8192 ![] bcast_S_S4x64x8192 main_cst_3
  let main_v22 : IVec S4x64x8192 1 := cmpf .olt main_v20 main_v21
  let main_v23 : FVec F S4x128x2048 .f32 := Host.absf main_arg3
  let main_cst_4 : FVec F S_ .f32 := constant S_ .f32 0x7F800000#32
  let main_v24 : FVec F S4x128x2048 .f32 := broadcastInDim S4x128x2048 ![] bcast_S_S4x128x2048 main_cst_4
  let main_v25 : IVec S4x128x2048 1 := cmpf .olt main_v23 main_v24
  let main_v26 : FVec F S128x192 .f32 := Host.absf main_arg4
  let main_cst_5 : FVec F S_ .f32 := constant S_ .f32 0x7F800000#32
  let main_v27 : FVec F S128x192 .f32 := broadcastInDim S128x192 ![] bcast_S_S128x192 main_cst_5
  let main_v28 : IVec S128x192 1 := cmpf .olt main_v26 main_v27
  let main_v29 : FVec F S128 .f32 := Host.absf main_arg5
  let main_cst_6 : FVec F S_ .f32 := constant S_ .f32 0x7F800000#32
  let main_v30 : FVec F S128 .f32 := broadcastInDim S128 ![] bcast_S_S128 main_cst_6
  let main_v31 : IVec S128 1 := cmpf .olt main_v29 main_v30
  let main_v32 : FVec F S128 .f32 := Host.absf main_arg6
  let main_cst_7 : FVec F S_ .f32 := constant S_ .f32 0x7F800000#32
  let main_v33 : FVec F S128 .f32 := broadcastInDim S128 ![] bcast_S_S128 main_cst_7
  let main_v34 : IVec S128 1 := cmpf .olt main_v32 main_v33
  let main_v35 : FVec F S128 .f32 := Host.absf main_arg7
  let main_cst_8 : FVec F S_ .f32 := constant S_ .f32 0x7F800000#32
  fn_part2 (F := F) main_arg8 main_arg9 main_arg10 main_v19 main_v22 main_v25 main_v28 main_v31 main_v34 main_v35 main_cst_8

def fn {F : FTy → Type} [FloatOps F] (main_arg0 : FVec F S4x8192x3 .f32) (main_arg1 : FVec F S4x2048x3 .f32) (main_arg2 : FVec F S4x64x8192 .f32) (main_arg3 : FVec F S4x128x2048 .f32) (main_arg4 : FVec F S128x192 .f32) (main_arg5 : FVec F S128 .f32) (main_arg6 : FVec F S128 .f32) (main_arg7 : FVec F S128 .f32) (main_arg8 : FVec F S128x128 .f32) (main_arg9 : FVec F S128 .f32) (main_arg10 : FVec F S128 .f32) (main_arg11 : FVec F S128 .f32) : IVec S4x8192x3 1 × IVec S4x64x8192 1 × IVec S4x128x2048 1 × IVec S128x192 1 × IVec S128 1 × IVec S128 1 × IVec S128 1 × IVec S128x128 1 × IVec S128 1 × IVec S128 1 :=
  let main_v0 : FVec F S4x8192x3 .f32 := mulf main_arg0 main_arg0
  let main_cst : FVec F S_ .f32 := constant S_ .f32 0x00000000#32
  let main_v1 : FVec F S4x8192 .f32 := (fun x v => Host.reduceAdd x v reducesTo_S4x8192x3_S4x8192_d2 h_S_) main_v0 main_cst
  let main_v2 : FVec F S4x8192x1 .f32 := broadcastInDim S4x8192x1 ![0, 1] bcast_S4x8192_S4x8192x1_0_1 main_v1
  let main_v3 : FVec F S4x2048x3 .f32 := mulf main_arg1 main_arg1
  let main_cst_0 : FVec F S_ .f32 := constant S_ .f32 0x00000000#32
  let main_v4 : FVec F S4x2048 .f32 := (fun x v => Host.reduceAdd x v reducesTo_S4x2048x3_S4x2048_d2 h_S_) main_v3 main_cst_0
  let main_v5 : FVec F S4x1x2048 .f32 := broadcastInDim S4x1x2048 ![0, 2] bcast_S4x2048_S4x1x2048_0_2 main_v4
  let main_v6 : FVec F S4x8192x2048 .f32 := broadcastInDim S4x8192x2048 ![0, 1, 2] bcast_S4x8192x1_S4x8192x2048_0_1_2 main_v2
  let main_v7 : FVec F S4x8192x2048 .f32 := broadcastInDim S4x8192x2048 ![0, 1, 2] bcast_S4x1x2048_S4x8192x2048_0_1_2 main_v5
  let main_v8 : FVec F S4x8192x2048 .f32 := addf main_v6 main_v7
  let main_v9 : FVec F S4x8192x2048 .f32 := (fun l r => Host.dotGeneral dot_S4x8192x3_S4x2048x3_S4x8192x2048_2_2_1_1_0_0 none l r) main_arg0 main_arg1
  let main_cst_1 : FVec F S_ .f32 := constant S_ .f32 0x40000000#32
  let main_v10 : FVec F S4x8192x2048 .f32 := broadcastInDim S4x8192x2048 ![] bcast_S_S4x8192x2048 main_cst_1
  let main_v11 : FVec F S4x8192x2048 .f32 := mulf main_v10 main_v9
  let main_v12 : FVec F S4x8192x2048 .f32 := subf main_v8 main_v11
  let main_cst_2 : FVec F S_ .f32 := constant S_ .f32 0x2B8CBCCC#32
  let main_v13 : FVec F S4x8192x2048 .f32 := broadcastInDim S4x8192x2048 ![] bcast_S_S4x8192x2048 main_cst_2
  let main_v14 : FVec F S4x8192x2048 .f32 := maximumf main_v12 main_v13
  let main_v15 : FVec F S4x8192x2048 .f32 := Host.sqrt main_v14
  let main_v16 : FVec F S4x8192x2048 .f32 := Host.negf main_v15
  let main_values : FVec F S4x8192x4 .f32 := (fun x => (Host.topK S4x8192x4 2 (FloatOps.cmpfTotal .gt) x sliceFits_S4x8192x2048_S4x8192x4).1) main_v16
  let main_indices : IVec S4x8192x4 32 := (fun x => (Host.topK S4x8192x4 2 (FloatOps.cmpfTotal .gt) x sliceFits_S4x8192x2048_S4x8192x4).2) main_v16
  let main_v17 : FVec F S4x8192x3 .f32 := (extractStridedSlice S4x8192x3 ![0, 0, 0] · slices_S4x8192x4_S4x8192x3_0_0_0) main_values
  fn_part1 (F := F) main_arg2 main_arg3 main_arg4 main_arg5 main_arg6 main_arg7 main_arg8 main_arg9 main_arg10 main_values main_v17
-- ==== Kernel.lean ====
abbrev S4x8192x3 : Shape := ⟨3, ![4, 8192, 3]⟩
abbrev S4x2048x3 : Shape := ⟨3, ![4, 2048, 3]⟩
abbrev S4x64x8192 : Shape := ⟨3, ![4, 64, 8192]⟩
abbrev S4x128x2048 : Shape := ⟨3, ![4, 128, 2048]⟩
abbrev S128x192 : Shape := ⟨2, ![128, 192]⟩
abbrev S128 : Shape := ⟨1, ![128]⟩
abbrev S128x128 : Shape := ⟨2, ![128, 128]⟩
abbrev S4x3x8192 : Shape := ⟨3, ![4, 3, 8192]⟩
abbrev S4x3x2048 : Shape := ⟨3, ![4, 3, 2048]⟩
abbrev S4x128x8192 : Shape := ⟨3, ![4, 128, 8192]⟩
abbrev S1x128 : Shape := ⟨2, ![1, 128]⟩
abbrev S1x3x512 : Shape := ⟨3, ![1, 3, 512]⟩
abbrev S1x3x2048 : Shape := ⟨3, ![1, 3, 2048]⟩
abbrev S1x64x512 : Shape := ⟨3, ![1, 64, 512]⟩
abbrev S1x128x2048 : Shape := ⟨3, ![1, 128, 2048]⟩
abbrev S1x128x512 : Shape := ⟨3, ![1, 128, 512]⟩
abbrev S3x512 : Shape := ⟨2, ![3, 512]⟩
abbrev S3x2048 : Shape := ⟨2, ![3, 2048]⟩
abbrev S2048x512 : Shape := ⟨2, ![2048, 512]⟩
abbrev S512 : Shape := ⟨1, ![512]⟩
abbrev S1x512 : Shape := ⟨2, ![1, 512]⟩
abbrev S2048 : Shape := ⟨1, ![2048]⟩
abbrev S2048x1 : Shape := ⟨2, ![2048, 1]⟩
abbrev S128x2048 : Shape := ⟨2, ![128, 2048]⟩
abbrev S128x512 : Shape := ⟨2, ![128, 512]⟩
abbrev S64x512 : Shape := ⟨2, ![64, 512]⟩
abbrev S128x64 : Shape := ⟨2, ![128, 64]⟩
abbrev S128x1 : Shape := ⟨2, ![128, 1]⟩

abbrev nBuf : Space → Nat
  | .hbm => 25
  | .vmem => 32
  | .smem => 0
  | _ => 0

abbrev bufTy : (tb : Table) → Fin (tcTables nBuf tb) → BufTy
  | .hbm, ⟨0, _⟩ => ⟨S4x8192x3, .f32⟩
  | .hbm, ⟨1, _⟩ => ⟨S4x2048x3, .f32⟩
  | .hbm, ⟨2, _⟩ => ⟨S4x64x8192, .f32⟩
  | .hbm, ⟨3, _⟩ => ⟨S4x128x2048, .f32⟩
  | .hbm, ⟨4, _⟩ => ⟨S128x192, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S4x3x8192, .f32⟩
  | .hbm, ⟨13, _⟩ => ⟨S4x3x2048, .f32⟩
  | .hbm, ⟨14, _⟩ => ⟨S4x128x8192, .f32⟩
  | .hbm, ⟨15, _⟩ => ⟨S1x128, .f32⟩
  | .hbm, ⟨16, _⟩ => ⟨S1x128, .f32⟩
  | .hbm, ⟨17, _⟩ => ⟨S1x128, .f32⟩
  | .hbm, ⟨18, _⟩ => ⟨S1x128, .f32⟩
  | .hbm, ⟨19, _⟩ => ⟨S4x128x8192, .f32⟩
  | .hbm, ⟨20, _⟩ => ⟨S1x128, .f32⟩
  | .hbm, ⟨21, _⟩ => ⟨S1x128, .f32⟩
  | .hbm, ⟨22, _⟩ => ⟨S1x128, .f32⟩
  | .hbm, ⟨23, _⟩ => ⟨S1x128, .f32⟩
  | .hbm, ⟨24, _⟩ => ⟨S4x128x8192, .f32⟩
  | .local _ .vmem, ⟨0, _⟩ => ⟨S1x3x512, .f32⟩
  | .local _ .vmem, ⟨1, _⟩ => ⟨S1x3x512, .f32⟩
  | .local _ .vmem, ⟨2, _⟩ => ⟨S1x3x2048, .f32⟩
  | .local _ .vmem, ⟨3, _⟩ => ⟨S1x3x2048, .f32⟩
  | .local _ .vmem, ⟨4, _⟩ => ⟨S1x64x512, .f32⟩
  | .local _ .vmem, ⟨5, _⟩ => ⟨S1x64x512, .f32⟩
  | .local _ .vmem, ⟨6, _⟩ => ⟨S1x128x2048, .f32⟩
  | .local _ .vmem, ⟨7, _⟩ => ⟨S1x128x2048, .f32⟩
  | .local _ .vmem, ⟨8, _⟩ => ⟨S128x192, .f32⟩
  | .local _ .vmem, ⟨9, _⟩ => ⟨S1x128x512, .f32⟩
  | .local _ .vmem, ⟨10, _⟩ => ⟨S1x128x512, .f32⟩
  | .local _ .vmem, ⟨11, _⟩ => ⟨S1x128, .f32⟩
  | .local _ .vmem, ⟨12, _⟩ => ⟨S1x128, .f32⟩
  | .local _ .vmem, ⟨13, _⟩ => ⟨S1x128x2048, .f32⟩
  | .local _ .vmem, ⟨14, _⟩ => ⟨S1x128x2048, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S128x128, .f32⟩
  | .local _ .vmem, ⟨20, _⟩ => ⟨S1x128x2048, .f32⟩
  | .local _ .vmem, ⟨21, _⟩ => ⟨S1x128x2048, .f32⟩
  | .local _ .vmem, ⟨22, _⟩ => ⟨S1x128, .f32⟩
  | .local _ .vmem, ⟨23, _⟩ => ⟨S1x128, .f32⟩
  | .local _ .vmem, ⟨24, _⟩ => ⟨S1x128x2048, .f32⟩
  | .local _ .vmem, ⟨25, _⟩ => ⟨S1x128x2048, .f32⟩
  | .local _ .vmem, ⟨26, _⟩ => ⟨S1x128, .f32⟩
  | .local _ .vmem, ⟨27, _⟩ => ⟨S1x128, .f32⟩
  | .local _ .vmem, ⟨28, _⟩ => ⟨S1x128, .f32⟩
  | .local _ .vmem, ⟨29, _⟩ => ⟨S1x128, .f32⟩
  | .local _ .vmem, ⟨30, _⟩ => ⟨S1x128x2048, .f32⟩
  | .local _ .vmem, ⟨31, _⟩ => ⟨S1x128x2048, .f32⟩
  | _, _ => ⟨S4x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2_0 : Ref sig .tc := ⟨.hbm, 14, rfl⟩
abbrev main_v2_1 : Ref sig .tc := ⟨.hbm, 15, rfl⟩
abbrev main_v2_2 : Ref sig .tc := ⟨.hbm, 16, rfl⟩
abbrev main_v3 : Ref sig .tc := ⟨.hbm, 17, rfl⟩
abbrev main_v4 : Ref sig .tc := ⟨.hbm, 18, rfl⟩
abbrev main_v5_0 : Ref sig .tc := ⟨.hbm, 19, rfl⟩
abbrev main_v5_1 : Ref sig .tc := ⟨.hbm, 20, rfl⟩
abbrev main_v5_2 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc1_stg7_0 : Ref sig .tc := ⟨.vmem, 22, rfl⟩
abbrev cc1_stg8_0 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg2_0 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg5_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12
abbrev cc1_sem0_0 : DmaSem sig := 13
abbrev cc1_sem0_1 : DmaSem sig := 14
abbrev cc1_sem1_0 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc1_sem7_0 : DmaSem sig := 22
abbrev cc1_sem8_0 : DmaSem sig := 23
abbrev cc2_sem0_0 : DmaSem sig := 24
abbrev cc2_sem0_1 : DmaSem sig := 25
abbrev cc2_sem1_0 : DmaSem sig := 26
abbrev cc2_sem2_0 : DmaSem sig := 27
abbrev cc2_sem3_0 : DmaSem sig := 28
abbrev cc2_sem4_0 : DmaSem sig := 29
abbrev cc2_sem5_0 : DmaSem sig := 30
abbrev cc2_sem5_1 : DmaSem sig := 31

abbrev nD : Nat := 1
abbrev τ : Topo := Topo.v7x

variable {F : FTy → Type} [FloatOps F]

abbrev grid0 : Pipeline.Grid := ⟨2, ![4, 16], ![false, false]⟩

def k0_cond1 (i : grid0.Coords) : BitVec 1 :=
  let arg0 : BitVec 32 := BitVec.ofNat 32 (i 0).val
  let c0_i32 : BitVec 32 := 0#32
  let v77 : BitVec 1 := Scalar.cmpi .eq arg0 c0_i32
  let arg1 : BitVec 32 := BitVec.ofNat 32 (i 1).val
  let c0_i32_35 : BitVec 32 := 0#32
  let v78 : BitVec 1 := Scalar.cmpi .eq arg1 c0_i32_35
  let v79 : BitVec 1 := Scalar.andi v77 v78
  let v80 : BitVec 32 := Scalar.extui v79
  let c0_i32_36 : BitVec 32 := 0#32
  let v81 : BitVec 1 := Scalar.cmpi .ne v80 c0_i32_36
  v81

def k0_cond2 (i : grid0.Coords) : BitVec 1 :=
  let arg0 : BitVec 32 := BitVec.ofNat 32 (i 0).val
  let c0_i32 : BitVec 32 := 0#32
  let v77 : BitVec 1 := Scalar.cmpi .eq arg0 c0_i32
  let arg1 : BitVec 32 := BitVec.ofNat 32 (i 1).val
  let c0_i32_35 : BitVec 32 := 0#32
  let v78 : BitVec 1 := Scalar.cmpi .eq arg1 c0_i32_35
  let v79 : BitVec 1 := Scalar.andi v77 v78
  let v_true : BitVec 1 := 1#1
  let v82 : BitVec 1 := Scalar.xori v79 v_true
  let v83 : BitVec 32 := Scalar.extui v82
  let c0_i32_37 : BitVec 32 := 0#32
  let v84 : BitVec 1 := Scalar.cmpi .ne v83 c0_i32_37
  v84

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x3x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S128x192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev grid1 : Pipeline.Grid := ⟨2, ![4, 4], ![false, false]⟩

def k1_cond1 (i : grid1.Coords) : BitVec 1 :=
  let arg0 : BitVec 32 := BitVec.ofNat 32 (i 0).val
  let c0_i32 : BitVec 32 := 0#32
  let v42 : BitVec 1 := Scalar.cmpi .eq arg0 c0_i32
  let arg1 : BitVec 32 := BitVec.ofNat 32 (i 1).val
  let c0_i32_21 : BitVec 32 := 0#32
  let v43 : BitVec 1 := Scalar.cmpi .eq arg1 c0_i32_21
  let v44 : BitVec 1 := Scalar.andi v42 v43
  let v45 : BitVec 32 := Scalar.extui v44
  let c0_i32_22 : BitVec 32 := 0#32
  let v46 : BitVec 1 := Scalar.cmpi .ne v45 c0_i32_22
  v46

def k1_cond2 (i : grid1.Coords) : BitVec 1 :=
  let arg0 : BitVec 32 := BitVec.ofNat 32 (i 0).val
  let c0_i32 : BitVec 32 := 0#32
  let v42 : BitVec 1 := Scalar.cmpi .eq arg0 c0_i32
  let arg1 : BitVec 32 := BitVec.ofNat 32 (i 1).val
  let c0_i32_21 : BitVec 32 := 0#32
  let v43 : BitVec 1 := Scalar.cmpi .eq arg1 c0_i32_21
  let v44 : BitVec 1 := Scalar.andi v42 v43
  let v_true : BitVec 1 := 1#1
  let v47 : BitVec 1 := Scalar.xori v44 v_true
  let v48 : BitVec 32 := Scalar.extui v47
  let c0_i32_23 : BitVec 32 := 0#32
  let v49 : BitVec 1 := Scalar.cmpi .ne v48 c0_i32_23
  v49

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1x128x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S1x128x2048 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev grid2 : Pipeline.Grid := ⟨2, ![4, 4], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage2_0 : Fin 2 → Memref sig .tc .vmem S1x128x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 2 → Memref sig .tc .vmem S1x128x2048 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]
-- ==== ReferenceIdeal.lean ====
abbrev S4x8192x3 : Shape := ⟨3, ![4, 8192, 3]⟩
abbrev S4x2048x3 : Shape := ⟨3, ![4, 2048, 3]⟩
abbrev S4x64x8192 : Shape := ⟨3, ![4, 64, 8192]⟩
abbrev S4x128x2048 : Shape := ⟨3, ![4, 128, 2048]⟩
abbrev S128x192 : Shape := ⟨2, ![128, 192]⟩
abbrev S128 : Shape := ⟨1, ![128]⟩
abbrev S128x128 : Shape := ⟨2, ![128, 128]⟩
abbrev S_ : Shape := ⟨0, ![]⟩
abbrev S4x8192 : Shape := ⟨2, ![4, 8192]⟩
abbrev S4x8192x1 : Shape := ⟨3, ![4, 8192, 1]⟩
abbrev S4x2048 : Shape := ⟨2, ![4, 2048]⟩
abbrev S4x1x2048 : Shape := ⟨3, ![4, 1, 2048]⟩
abbrev S4x8192x2048 : Shape := ⟨3, ![4, 8192, 2048]⟩
abbrev S4x8192x3x1 : Shape := ⟨4, ![4, 8192, 3, 1]⟩
abbrev S1 : Shape := ⟨1, ![1]⟩
abbrev S1x1x1x1 : Shape := ⟨4, ![1, 1, 1, 1]⟩
abbrev S4x2048x128 : Shape := ⟨3, ![4, 2048, 128]⟩
abbrev S4 : Shape := ⟨1, ![4]⟩
abbrev S4x1x1 : Shape := ⟨3, ![4, 1, 1]⟩
abbrev S4x8192x3x2 : Shape := ⟨4, ![4, 8192, 3, 2]⟩
abbrev S4x8192x3x128 : Shape := ⟨4, ![4, 8192, 3, 128]⟩
abbrev S4x8192x128 : Shape := ⟨3, ![4, 8192, 128]⟩
abbrev S4x128x8192 : Shape := ⟨3, ![4, 128, 8192]⟩
abbrev S4x192x8192 : Shape := ⟨3, ![4, 192, 8192]⟩
abbrev S1x128x1 : Shape := ⟨3, ![1, 128, 1]⟩

abbrev nBuf : Space → Nat
  | .hbm => 171
  | .vmem => 0
  | .smem => 0
  | _ => 0

abbrev hbmTy0_0 (i : Nat) : BufTy := match i % 128 with
  | 0 => ⟨S4x8192x3, .f32⟩
  | 1 => ⟨S4x2048x3, .f32⟩
  | 2 => ⟨S4x64x8192, .f32⟩
  | 3 => ⟨S4x128x2048, .f32⟩
  | 4 => ⟨S128x192, .f32⟩
  | 5 => ⟨S128, .f32⟩
  | 6 => ⟨S128, .f32⟩
  | 7 => ⟨S128, .f32⟩
  | 8 => ⟨S128x128, .f32⟩
  | 9 => ⟨S128, .f32⟩
  | 10 => ⟨S128, .f32⟩
  | 11 => ⟨S128, .f32⟩
  | 12 => ⟨S4x8192x3, .f32⟩
  | 13 => ⟨S_, .f32⟩
  | 14 => ⟨S4x8192, .f32⟩
  | 15 => ⟨S4x8192x1, .f32⟩
  | 16 => ⟨S4x2048x3, .f32⟩
  | 17 => ⟨S_, .f32⟩
  | 18 => ⟨S4x2048, .f32⟩
  | 19 => ⟨S4x1x2048, .f32⟩
  | 20 => ⟨S4x8192x2048, .f32⟩
  | 21 => ⟨S4x8192x2048, .f32⟩
  | 22 => ⟨S4x8192x2048, .f32⟩
  | 23 => ⟨S4x8192x2048, .f32⟩
  | 24 => ⟨S_, .f32⟩
  | 25 => ⟨S4x8192x2048, .f32⟩
  | 26 => ⟨S4x8192x2048, .f32⟩
  | 27 => ⟨S4x8192x2048, .f32⟩
  | 28 => ⟨S_, .f32⟩
  | 29 => ⟨S4x8192x2048, .f32⟩
  | 30 => ⟨S4x8192x2048, .f32⟩
  | 31 => ⟨S4x8192x2048, .f32⟩
  | 32 => ⟨S4x8192x2048, .f32⟩
  | 33 => ⟨S4x8192x3, .f32⟩
  | 34 => ⟨S4x8192x3, .i32⟩
  | 35 => ⟨S_, .i32⟩
  | 36 => ⟨S4x8192x3, .i32⟩
  | 37 => ⟨S4x8192x3, .i1⟩
  | 38 => ⟨S_, .i32⟩
  | 39 => ⟨S4x8192x3, .i32⟩
  | 40 => ⟨S4x8192x3, .i32⟩
  | 41 => ⟨S4x8192x3, .i32⟩
  | 42 => ⟨S4x8192x3x1, .i32⟩
  | 43 => ⟨S1, .i32⟩
  | 44 => ⟨S_, .i32⟩
  | 45 => ⟨S4x8192x3x1, .i32⟩
  | 46 => ⟨S4x8192x3x1, .i1⟩
  | 47 => ⟨S1x1x1x1, .i32⟩
  | 48 => ⟨S4x8192x3x1, .i32⟩
  | 49 => ⟨S4x8192x3x1, .i1⟩
  | 50 => ⟨S4x8192x3x1, .i1⟩
  | 51 => ⟨S_, .i1⟩
  | 52 => ⟨S4x8192x3, .i1⟩
  | 53 => ⟨S4x8192x3, .f32⟩
  | 54 => ⟨S_, .f32⟩
  | 55 => ⟨S4x8192x3, .f32⟩
  | 56 => ⟨S4x8192x3, .f32⟩
  | 57 => ⟨S_, .f32⟩
  | 58 => ⟨S4x8192x3, .f32⟩
  | 59 => ⟨S4x8192x3, .f32⟩
  | 60 => ⟨S_, .f32⟩
  | 61 => ⟨S4x8192x3, .f32⟩
  | 62 => ⟨S4x8192x3, .f32⟩
  | 63 => ⟨S_, .f32⟩
  | 64 => ⟨S4x8192, .f32⟩
  | 65 => ⟨S4x8192x1, .f32⟩
  | 66 => ⟨S4x8192x3, .f32⟩
  | 67 => ⟨S4x8192x3, .f32⟩
  | 68 => ⟨S4x2048x128, .f32⟩
  | 69 => ⟨S4, .i32⟩
  | 70 => ⟨S4x1x1, .i32⟩
  | 71 => ⟨S_, .i32⟩
  | 72 => ⟨S4x1x1, .i32⟩
  | 73 => ⟨S4x1x1, .i1⟩
  | 74 => ⟨S_, .i32⟩
  | 75 => ⟨S4x1x1, .i32⟩
  | 76 => ⟨S4x1x1, .i32⟩
  | 77 => ⟨S4x1x1, .i32⟩
  | 78 => ⟨S_, .i32⟩
  | 79 => ⟨S4x8192x3, .i32⟩
  | 80 => ⟨S4x8192x3, .i1⟩
  | 81 => ⟨S_, .i32⟩
  | 82 => ⟨S4x8192x3, .i32⟩
  | 83 => ⟨S4x8192x3, .i32⟩
  | 84 => ⟨S4x8192x3, .i32⟩
  | 85 => ⟨S4x8192x3, .i32⟩
  | 86 => ⟨S4x8192x3x1, .i32⟩
  | 87 => ⟨S4x8192x3x1, .i32⟩
  | 88 => ⟨S4x8192x3x2, .i32⟩
  | 89 => ⟨S4x8192x3x128, .f32⟩
  | 90 => ⟨S4x8192x3x1, .f32⟩
  | 91 => ⟨S4x8192x3x128, .f32⟩
  | 92 => ⟨S4x8192x3x128, .f32⟩
  | 93 => ⟨S_, .f32⟩
  | 94 => ⟨S4x8192x128, .f32⟩
  | 95 => ⟨S4x128x8192, .f32⟩
  | 96 => ⟨S4x192x8192, .f32⟩
  | 97 => ⟨S4x8192x128, .f32⟩
  | 98 => ⟨S4x128x8192, .f32⟩
  | 99 => ⟨S1x128x1, .f32⟩
  | 100 => ⟨S4x128x8192, .f32⟩
  | 101 => ⟨S4x128x8192, .f32⟩
  | 102 => ⟨S_, .f32⟩
  | 103 => ⟨S128, .f32⟩
  | 104 => ⟨S1x128x1, .f32⟩
  | 105 => ⟨S_, .f32⟩
  | 106 => ⟨S1x128x1, .f32⟩
  | 107 => ⟨S1x128x1, .f32⟩
  | 108 => ⟨S4x128x8192, .f32⟩
  | 109 => ⟨S4x128x8192, .f32⟩
  | 110 => ⟨S4x128x8192, .f32⟩
  | 111 => ⟨S_, .f32⟩
  | 112 => ⟨S128, .f32⟩
  | 113 => ⟨S1x128x1, .f32⟩
  | 114 => ⟨S_, .f32⟩
  | 115 => ⟨S1x128x1, .f32⟩
  | 116 => ⟨S1x128x1, .f32⟩
  | 117 => ⟨S1x128x1, .f32⟩
  | 118 => ⟨S4x128x8192, .f32⟩
  | 119 => ⟨S4x128x8192, .f32⟩
  | 120 => ⟨S4x128x8192, .f32⟩
  | 121 => ⟨S4x128x8192, .f32⟩
  | 122 => ⟨S_, .f32⟩
  | 123 => ⟨S1x128x1, .f32⟩
  | 124 => ⟨S1x128x1, .f32⟩
  | 125 => ⟨S1x128x1, .f32⟩
  | 126 => ⟨S4x128x8192, .f32⟩
  | 127 => ⟨S4x128x8192, .f32⟩
  | _ => ⟨S4x8192x3, .f32⟩

abbrev hbmTy0_1 (i : Nat) : BufTy := match i % 128 with
  | 0 => ⟨S1x128x1, .f32⟩
  | 1 => ⟨S4x128x8192, .f32⟩
  | 2 => ⟨S4x128x8192, .f32⟩
  | 3 => ⟨S_, .f32⟩
  | 4 => ⟨S4x128x8192, .f32⟩
  | 5 => ⟨S4x128x8192, .f32⟩
  | 6 => ⟨S4x8192x128, .f32⟩
  | 7 => ⟨S4x128x8192, .f32⟩
  | 8 => ⟨S1x128x1, .f32⟩
  | 9 => ⟨S4x128x8192, .f32⟩
  | 10 => ⟨S4x128x8192, .f32⟩
  | 11 => ⟨S_, .f32⟩
  | 12 => ⟨S128, .f32⟩
  | 13 => ⟨S1x128x1, .f32⟩
  | 14 => ⟨S_, .f32⟩
  | 15 => ⟨S1x128x1, .f32⟩
  | 16 => ⟨S1x128x1, .f32⟩
  | 17 => ⟨S4x128x8192, .f32⟩
  | 18 => ⟨S4x128x8192, .f32⟩
  | 19 => ⟨S4x128x8192, .f32⟩
  | 20 => ⟨S_, .f32⟩
  | 21 => ⟨S128, .f32⟩
  | 22 => ⟨S1x128x1, .f32⟩
  | 23 => ⟨S_, .f32⟩
  | 24 => ⟨S1x128x1, .f32⟩
  | 25 => ⟨S1x128x1, .f32⟩
  | 26 => ⟨S1x128x1, .f32⟩
  | 27 => ⟨S4x128x8192, .f32⟩
  | 28 => ⟨S4x128x8192, .f32⟩
  | 29 => ⟨S4x128x8192, .f32⟩
  | 30 => ⟨S4x128x8192, .f32⟩
  | 31 => ⟨S_, .f32⟩
  | 32 => ⟨S1x128x1, .f32⟩
  | 33 => ⟨S1x128x1, .f32⟩
  | 34 => ⟨S1x128x1, .f32⟩
  | 35 => ⟨S4x128x8192, .f32⟩
  | 36 => ⟨S4x128x8192, .f32⟩
  | 37 => ⟨S1x128x1, .f32⟩
  | 38 => ⟨S4x128x8192, .f32⟩
  | 39 => ⟨S4x128x8192, .f32⟩
  | 40 => ⟨S_, .f32⟩
  | 41 => ⟨S4x128x8192, .f32⟩
  | 42 => ⟨S4x128x8192, .f32⟩
  | _ => ⟨S4x8192x3, .f32⟩

abbrev hbmTy (i : Nat) : BufTy := match i / 128 with
  | 0 => hbmTy0_0 i
  | 1 => hbmTy0_1 i
  | _ => ⟨S4x8192x3, .f32⟩

abbrev bufTy : (tb : Table) → Fin (tcTables nBuf tb) → BufTy
  | .hbm, ⟨i, _⟩ => hbmTy i
  | _, _ => ⟨S4x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_values : Ref sig .tc := ⟨.hbm, 33, rfl⟩
abbrev main_indices : Ref sig .tc := ⟨.hbm, 34, rfl⟩
abbrev main_call0_c : Ref sig .tc := ⟨.hbm, 35, rfl⟩
abbrev main_call0_v0 : Ref sig .tc := ⟨.hbm, 36, rfl⟩
abbrev main_call0_v1 : Ref sig .tc := ⟨.hbm, 37, rfl⟩
abbrev main_call0_c_0 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_call0_v5 : Ref sig .tc := ⟨.hbm, 42, rfl⟩
abbrev main_call0_c_1 : Ref sig .tc := ⟨.hbm, 43, rfl⟩
abbrev main_call0_c_2 : Ref sig .tc := ⟨.hbm, 44, rfl⟩
abbrev main_call0_v6 : Ref sig .tc := ⟨.hbm, 45, rfl⟩
abbrev main_call0_v7 : Ref sig .tc := ⟨.hbm, 46, rfl⟩
abbrev main_call0_v8 : Ref sig .tc := ⟨.hbm, 47, rfl⟩
abbrev main_call0_v9 : Ref sig .tc := ⟨.hbm, 48, rfl⟩
abbrev main_call0_v10 : Ref sig .tc := ⟨.hbm, 49, rfl⟩
abbrev main_call0_v11 : Ref sig .tc := ⟨.hbm, 50, rfl⟩
abbrev main_call0_c_3 : Ref sig .tc := ⟨.hbm, 51, rfl⟩
abbrev main_call0_v12 : Ref sig .tc := ⟨.hbm, 52, rfl⟩
abbrev main_call0_v13 : Ref sig .tc := ⟨.hbm, 53, rfl⟩
abbrev main_call0_cst : Ref sig .tc := ⟨.hbm, 54, rfl⟩
abbrev main_call0_v14 : Ref sig .tc := ⟨.hbm, 55, rfl⟩
abbrev main_v17 : Ref sig .tc := ⟨.hbm, 56, rfl⟩
abbrev main_cst_3 : Ref sig .tc := ⟨.hbm, 57, rfl⟩
abbrev main_v18 : Ref sig .tc := ⟨.hbm, 58, rfl⟩
abbrev main_v19 : Ref sig .tc := ⟨.hbm, 59, rfl⟩
abbrev main_cst_4 : Ref sig .tc := ⟨.hbm, 60, rfl⟩
abbrev main_v20 : Ref sig .tc := ⟨.hbm, 61, rfl⟩
abbrev main_v21 : Ref sig .tc := ⟨.hbm, 62, rfl⟩
abbrev main_cst_5 : Ref sig .tc := ⟨.hbm, 63, rfl⟩
abbrev main_v22 : Ref sig .tc := ⟨.hbm, 64, rfl⟩
abbrev main_v23 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_c : Ref sig .tc := ⟨.hbm, 71, rfl⟩
abbrev main_v29 : Ref sig .tc := ⟨.hbm, 72, rfl⟩
abbrev main_v30 : Ref sig .tc := ⟨.hbm, 73, rfl⟩
abbrev main_c_6 : Ref sig .tc := ⟨.hbm, 74, rfl⟩
abbrev main_v31 : Ref sig .tc := ⟨.hbm, 75, rfl⟩
abbrev main_v32 : Ref sig .tc := ⟨.hbm, 76, rfl⟩
abbrev main_v33 : Ref sig .tc := ⟨.hbm, 77, rfl⟩
abbrev main_c_7 : Ref sig .tc := ⟨.hbm, 78, rfl⟩
abbrev main_v34 : Ref sig .tc := ⟨.hbm, 79, rfl⟩
abbrev main_v35 : Ref sig .tc := ⟨.hbm, 80, rfl⟩
abbrev main_c_8 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_cst_9 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_cst_10 : Ref sig .tc := ⟨.hbm, 102, rfl⟩
abbrev main_v55 : Ref sig .tc := ⟨.hbm, 103, rfl⟩
abbrev main_v56 : Ref sig .tc := ⟨.hbm, 104, rfl⟩
abbrev main_cst_11 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_cst_12 : Ref sig .tc := ⟨.hbm, 111, rfl⟩
abbrev main_v62 : Ref sig .tc := ⟨.hbm, 112, rfl⟩
abbrev main_v63 : Ref sig .tc := ⟨.hbm, 113, rfl⟩
abbrev main_cst_13 : Ref sig .tc := ⟨.hbm, 114, rfl⟩
abbrev main_v64 : Ref sig .tc := ⟨.hbm, 115, rfl⟩
abbrev main_v65 : Ref sig .tc := ⟨.hbm, 116, rfl⟩
abbrev main_v66 : Ref sig .tc := ⟨.hbm, 117, rfl⟩
abbrev main_v67 : Ref sig .tc := ⟨.hbm, 118, rfl⟩
abbrev main_v68 : Ref sig .tc := ⟨.hbm, 119, rfl⟩
abbrev main_v69 : Ref sig .tc := ⟨.hbm, 120, rfl⟩
abbrev main_v70 : Ref sig .tc := ⟨.hbm, 121, rfl⟩
abbrev main_cst_14 : Ref sig .tc := ⟨.hbm, 122, rfl⟩
abbrev main_v71 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_v75 : Ref sig .tc := ⟨.hbm, 127, rfl⟩
abbrev main_v76 : Ref sig .tc := ⟨.hbm, 128, rfl⟩
abbrev main_v77 : Ref sig .tc := ⟨.hbm, 129, rfl⟩
abbrev main_v78 : Ref sig .tc := ⟨.hbm, 130, rfl⟩
abbrev main_call1_cst : Ref sig .tc := ⟨.hbm, 131, rfl⟩
abbrev main_call1_v0 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩
abbrev main_v84 : Ref sig .tc := ⟨.hbm, 138, rfl⟩
abbrev main_cst_15 : Ref sig .tc := ⟨.hbm, 139, rfl⟩
abbrev main_v85 : Ref sig .tc := ⟨.hbm, 140, rfl⟩
abbrev main_v86 : Ref sig .tc := ⟨.hbm, 141, rfl⟩
abbrev main_cst_16 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_cst_17 : Ref sig .tc := ⟨.hbm, 148, rfl⟩
abbrev main_v92 : Ref sig .tc := ⟨.hbm, 149, rfl⟩
abbrev main_v93 : Ref sig .tc := ⟨.hbm, 150, rfl⟩
abbrev main_cst_18 : Ref sig .tc := ⟨.hbm, 151, rfl⟩
abbrev main_v94 : Ref sig .tc := ⟨.hbm, 152, rfl⟩
abbrev main_v95 : Ref sig .tc := ⟨.hbm, 153, rfl⟩
abbrev main_v96 : Ref sig .tc := ⟨.hbm, 154, rfl⟩
abbrev main_v97 : Ref sig .tc := ⟨.hbm, 155, rfl⟩
abbrev main_v98 : Ref sig .tc := ⟨.hbm, 156, rfl⟩
abbrev main_v99 : Ref sig .tc := ⟨.hbm, 157, rfl⟩
abbrev main_v100 : Ref sig .tc := ⟨.hbm, 158, rfl⟩
abbrev main_cst_19 : Ref sig .tc := ⟨.hbm, 159, rfl⟩
abbrev main_v101 : Ref sig .tc := ⟨.hbm, 160, rfl⟩
abbrev main_v102 : Ref sig .tc := ⟨.hbm, 161, rfl⟩
abbrev main_v103 : Ref sig .tc := ⟨.hbm, 162, rfl⟩
abbrev main_v104 : Ref sig .tc := ⟨.hbm, 163, rfl⟩
abbrev main_v105 : Ref sig .tc := ⟨.hbm, 164, rfl⟩
abbrev main_v106 : Ref sig .tc := ⟨.hbm, 165, rfl⟩
abbrev main_v107 : Ref sig .tc := ⟨.hbm, 166, rfl⟩
abbrev main_v108 : Ref sig .tc := ⟨.hbm, 167, rfl⟩
abbrev main_call2_cst : Ref sig .tc := ⟨.hbm, 168, rfl⟩
abbrev main_call2_v0 : Ref sig .tc := ⟨.hbm, 169, rfl⟩
abbrev main_v109 : Ref sig .tc := ⟨.hbm, 170, rfl⟩

abbrev nD : Nat := 1
abbrev τ : Topo := Topo.v7x

variable {F : FTy → Type} [FloatOps F]
-- ==== Proof.KernelIdeal.StageA.lean ====
/- The stage A: neighbour search, interpolation, first channel mixing. What one run of its body leaves in the output blocks, as
   named functions of the input blocks, the running sums point by point, and the body's obligation to the pipeline. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.TableIdle
public import Idealize.ShloMosaic.Lib.Pipeline.RegionsLoop
public import Idealize.ShloMosaic.Lib.Pipeline.FrameSuffix
public import Idealize.ShloMosaic.Lib.Pipeline.Value
public import Idealize.ShloMosaic.Lib.Ring
public import Idealize.ShloMosaic.Lib.Tactic
public import Idealize.ShloMosaic.Lib.WordCmp

@[expose] public section

set_option maxRecDepth 16384

noncomputable section

namespace Cert.KernelIdeal.Steps

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the buffers when the stage is entered
variable (V : (c : Dev nD) → (b : Ref sig .tc) → Buf (Elt F) ((c : Thread nD τ).loc b))

/-- Window `w`'s block at point `t`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The left columns of the mixing weights (those of the carried-over features). -/
def wLeft (x4 : Vec F S128x192 .f32) : Vec F S128x64 .f32 :=
  View.ld x4 (Rect.unit (s := S128x192) ![0, 0] S128x64.size inb_S128x192_S128x64_0_0)
/-- The right columns (those of the interpolated features). -/
def wRight (x4 : Vec F S128x192 .f32) : Vec F S128x128 .f32 :=
  View.ld x4 (Rect.unit (s := S128x192) ![0, 64] S128x128.size inb_S128x192_S128x128_0_64)

/-- The tile this stage stores. -/
def tile0 (x0 : Vec F S1x3x512 .f32) (x1 : Vec F S1x3x2048 .f32) (x2 : Vec F S1x64x512 .f32) (x3 : Vec F S1x128x2048 .f32)
    (x4 : Vec F S128x192 .f32) : Vec F S1x128x512 .f32 :=
  k0_pay17 (k0_pay4 x0) (k0_pay9 x0 x1) (k0_pay10 x0 x1) (k0_pay11 x0 x1) (k0_pay13 x0 x1) (k0_pay14 x0 x1) (k0_pay15 x0 x1)
    x3 x2 (wLeft x4) (wRight x4)
/-- The tile's sum per channel. -/
def sum0 (x0 : Vec F S1x3x512 .f32) (x1 : Vec F S1x3x2048 .f32) (x2 : Vec F S1x64x512 .f32) (x3 : Vec F S1x128x2048 .f32)
    (x4 : Vec F S128x192 .f32) : Vec F S1x128 .f32 :=
  k0_pay18 (k0_pay4 x0) (k0_pay9 x0 x1) (k0_pay10 x0 x1) (k0_pay11 x0 x1) (k0_pay13 x0 x1) (k0_pay14 x0 x1) (k0_pay15 x0 x1)
    x3 x2 (wLeft x4) (wRight x4)
/-- The tile's sum of squares per channel. -/
def sq0 (x0 : Vec F S1x3x512 .f32) (x1 : Vec F S1x3x2048 .f32) (x2 : Vec F S1x64x512 .f32) (x3 : Vec F S1x128x2048 .f32)
    (x4 : Vec F S128x192 .f32) : Vec F S1x128 .f32 :=
  k0_pay19 (k0_pay4 x0) (k0_pay9 x0 x1) (k0_pay10 x0 x1) (k0_pay11 x0 x1) (k0_pay13 x0 x1) (k0_pay14 x0 x1) (k0_pay15 x0 x1)
    x3 x2 (wLeft x4) (wRight x4)

theorem zero2_0 : (![0, 0] : Fin 2 → Nat) = fun _ => 0 := funext fun a => by fin_cases a <;> rfl
theorem zero3_0 : (![0, 0, 0] : Fin 3 → Nat) = fun _ => 0 := funext fun a => by fin_cases a <;> rfl

/-- One store of the whole block covers it. -/
theorem coverTile0 (d : Vec F S1x128x512 .f32) (y : S1x128x512.Idx) :
    ∃ pc ∈ ([⟨Rect.unit (s := S1x128x512) ![0, 0, 0] S1x128x512.size inb_S1x128x512_S1x128x512_0_0_0, d⟩] : List (View.Piece (Elt F) S1x128x512 .f32)), y ∈ pc.1.set :=
  View.cover_of_tiled _ S1x128x512.size (by rfl) y

/-- One store of the whole row covers it. -/
theorem coverRow0 (d : Vec F S1x128 .f32) (y : S1x128.Idx) :
    ∃ pc ∈ ([⟨Rect.unit (s := S1x128) ![0, 0] S1x128.size inb_S1x128_S1x128_0_0, d⟩] : List (View.Piece (Elt F) S1x128 .f32)), y ∈ pc.1.set :=
  View.cover_of_tiled _ S1x128.size (by rfl) y

/-- The body's first branch is taken at the first point of the grid, -/
theorem first0 : ∀ t : Fin cfg0.N, k0_cond1 (grid0.coords t) = 1#1 ↔ t.val = 0 :=
  (by decide +kernel : ∀ t : Fin grid0.N, k0_cond1 (grid0.coords t) = 1#1 ↔ t.val = 0)
/-- and its second at every other. -/
theorem later0 : ∀ t : Fin cfg0.N, k0_cond2 (grid0.coords t) = 1#1 ↔ t.val ≠ 0 :=
  (by decide +kernel : ∀ t : Fin grid0.N, k0_cond2 (grid0.coords t) = 1#1 ↔ t.val ≠ 0)

set_option maxHeartbeats 1600000 in
/-- The body at the first point: the running rows are set to the tile's own sums. -/
theorem run0_first (c : Dev nD) (i : grid0.Coords)
    (arg2 : Memref sig .tc .vmem S1x3x512 .f32) (harg2 : arg2.IsWhole) (arg3 : Memref sig .tc .vmem S1x3x2048 .f32) (harg3 : arg3.IsWhole) (arg4 : Memref sig .tc .vmem S1x64x512 .f32) (harg4 : arg4.IsWhole) (arg5 : Memref sig .tc .vmem S1x128x2048 .f32) (harg5 : arg5.IsWhole) (arg6 : Memref sig .tc .vmem S128x192 .f32) (harg6 : arg6.IsWhole) (arg7 : Memref sig .tc .vmem S1x128x512 .f32) (harg7 : arg7.IsWhole) (arg8 : Memref sig .tc .vmem S1x128 .f32) (harg8 : arg8.IsWhole) (arg9 : Memref sig .tc .vmem S1x128 .f32) (harg9 : arg9.IsWhole)
    (hc0 : k0_cond1 i = 1#1) (hc1 : ¬ k0_cond2 i = 1#1)
    (x0 : Vec F S1x3x512 .f32) (x1 : Vec F S1x3x2048 .f32) (x2 : Vec F S1x64x512 .f32) (x3 : Vec F S1x128x2048 .f32) (x4 : Vec F S128x192 .f32)  (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (tile0 x0 x1 x2 x3 x4) ∗ owns (c : Thread nD τ) arg8 fullShare (sum0 x0 x1 x2 x3 x4) ∗ owns (c : Thread nD τ) arg9 fullShare (sq0 x0 x1 x2 x3 x4)) -∗ K ⟨⟩))
      ⊢ wp frame (wpE (defs₀ (F := F)) Variants.none c none) E (cc0__stageA_body i arg2 harg2 arg3 harg3 arg4 harg4 arg5 harg5 arg6 harg6 arg7 harg7 arg8 harg8 arg9 harg9) K := by
  simp only [cc0__stageA_body_eq_skeleton]; unfold cc0__stageA_body_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0 hf1 hf2 hf3 hf4
  sl_exec (disch := first | sl_exact hc0 | sl_exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (View.read_writes_eq_canon _ _ _ (coverTile0 _)).trans ?_
    rw [View.canon_unit_zero zero3_0]
    sl_unfold_words; simp only [View.readAt_eq_ld, View.ld_unit_zero (S := S1x128) zero2_0, View.ld_unit_zero (S := S1x128x2048) zero3_0, View.ld_unit_zero (S := S1x128x512) zero3_0, View.ld_unit_zero (S := S1x3x2048) zero3_0, View.ld_unit_zero (S := S1x3x512) zero3_0, View.ld_unit_zero (S := S1x64x512) zero3_0]; unfold tile0 wLeft wRight; rfl
  isplitl [H6]
  · iexists _; isplitr
    swap; · iexact H6
    ipureintro
    refine (View.read_writes_eq_canon _ _ _ (coverRow0 _)).trans ?_
    rw [View.canon_unit_zero zero2_0]
    sl_unfold_words; simp only [View.readAt_eq_ld, View.ld_unit_zero (S := S1x128) zero2_0, View.ld_unit_zero (S := S1x128x2048) zero3_0, View.ld_unit_zero (S := S1x128x512) zero3_0, View.ld_unit_zero (S := S1x3x2048) zero3_0, View.ld_unit_zero (S := S1x3x512) zero3_0, View.ld_unit_zero (S := S1x64x512) zero3_0]; unfold sum0 wLeft wRight; rfl
  iexists _; isplitr
  swap; · iexact H7
  ipureintro
  refine (View.read_writes_eq_canon _ _ _ (coverRow0 _)).trans ?_
  rw [View.canon_unit_zero zero2_0]
  sl_unfold_words; simp only [View.readAt_eq_ld, View.ld_unit_zero (S := S1x128) zero2_0, View.ld_unit_zero (S := S1x128x2048) zero3_0, View.ld_unit_zero (S := S1x128x512) zero3_0, View.ld_unit_zero (S := S1x3x2048) zero3_0, View.ld_unit_zero (S := S1x3x512) zero3_0, View.ld_unit_zero (S := S1x64x512) zero3_0]; unfold sq0 wLeft wRight; rfl

set_option maxHeartbeats 1600000 in
/-- The body at a later point: the tile's sums are added to the running rows. -/
theorem run0_later (c : Dev nD) (i : grid0.Coords)
    (arg2 : Memref sig .tc .vmem S1x3x512 .f32) (harg2 : arg2.IsWhole) (arg3 : Memref sig .tc .vmem S1x3x2048 .f32) (harg3 : arg3.IsWhole) (arg4 : Memref sig .tc .vmem S1x64x512 .f32) (harg4 : arg4.IsWhole) (arg5 : Memref sig .tc .vmem S1x128x2048 .f32) (harg5 : arg5.IsWhole) (arg6 : Memref sig .tc .vmem S128x192 .f32) (harg6 : arg6.IsWhole) (arg7 : Memref sig .tc .vmem S1x128x512 .f32) (harg7 : arg7.IsWhole) (arg8 : Memref sig .tc .vmem S1x128 .f32) (harg8 : arg8.IsWhole) (arg9 : Memref sig .tc .vmem S1x128 .f32) (harg9 : arg9.IsWhole)
    (hc0 : ¬ k0_cond1 i = 1#1) (hc1 : k0_cond2 i = 1#1)
    (x0 : Vec F S1x3x512 .f32) (x1 : Vec F S1x3x2048 .f32) (x2 : Vec F S1x64x512 .f32) (x3 : Vec F S1x128x2048 .f32) (x4 : Vec F S128x192 .f32) (o0 : Vec F S1x128 .f32) (o1 : Vec F S1x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare o0 ∗ owns (c : Thread nD τ) arg9 fullShare o1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (tile0 x0 x1 x2 x3 x4) ∗ owns (c : Thread nD τ) arg8 fullShare (k0_pay1 (sum0 x0 x1 x2 x3 x4) o0) ∗ owns (c : Thread nD τ) arg9 fullShare (k0_pay2 (sq0 x0 x1 x2 x3 x4) o1)) -∗ K ⟨⟩))
      ⊢ wp frame (wpE (defs₀ (F := F)) Variants.none c none) E (cc0__stageA_body i arg2 harg2 arg3 harg3 arg4 harg4 arg5 harg5 arg6 harg6 arg7 harg7 arg8 harg8 arg9 harg9) K := by
  simp only [cc0__stageA_body_eq_skeleton]; unfold cc0__stageA_body_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, Hk⟩
  subst hf0 hf1 hf2 hf3 hf4 hf6 hf7
  sl_exec (disch := first | sl_exact hc0 | sl_exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (View.read_writes_eq_canon _ _ _ (coverTile0 _)).trans ?_
    rw [View.canon_unit_zero zero3_0]
    sl_unfold_words; simp only [View.readAt_eq_ld, View.ld_unit_zero (S := S1x128) zero2_0, View.ld_unit_zero (S := S1x128x2048) zero3_0, View.ld_unit_zero (S := S1x128x512) zero3_0, View.ld_unit_zero (S := S1x3x2048) zero3_0, View.ld_unit_zero (S := S1x3x512) zero3_0, View.ld_unit_zero (S := S1x64x512) zero3_0]; unfold tile0 wLeft wRight; rfl
  isplitl [H6]
  · iexists _; isplitr
    swap; · iexact H6
    ipureintro
    refine (View.read_writes_eq_canon _ _ _ (coverRow0 _)).trans ?_
    rw [View.canon_unit_zero zero2_0]
    sl_unfold_words; simp only [View.readAt_eq_ld, View.ld_unit_zero (S := S1x128) zero2_0, View.ld_unit_zero (S := S1x128x2048) zero3_0, View.ld_unit_zero (S := S1x128x512) zero3_0, View.ld_unit_zero (S := S1x3x2048) zero3_0, View.ld_unit_zero (S := S1x3x512) zero3_0, View.ld_unit_zero (S := S1x64x512) zero3_0]; unfold sum0 wLeft wRight; rfl
  iexists _; isplitr
  swap; · iexact H7
  ipureintro
  refine (View.read_writes_eq_canon _ _ _ (coverRow0 _)).trans ?_
  rw [View.canon_unit_zero zero2_0]
  sl_unfold_words; simp only [View.readAt_eq_ld, View.ld_unit_zero (S := S1x128) zero2_0, View.ld_unit_zero (S := S1x128x2048) zero3_0, View.ld_unit_zero (S := S1x128x512) zero3_0, View.ld_unit_zero (S := S1x3x2048) zero3_0, View.ld_unit_zero (S := S1x3x512) zero3_0, View.ld_unit_zero (S := S1x64x512) zero3_0]; unfold sq0 wLeft wRight; rfl

/-- The running rows after the point at position `m`. -/
def rows0 (c : Dev nD) : (m : ℕ) → m < cfg0.N → Vec F S1x128 .f32 × Vec F S1x128 .f32
  | 0, h => (sum0 (iblk0 V c 0 ⟨0, h⟩) (iblk0 V c 1 ⟨0, h⟩) (iblk0 V c 2 ⟨0, h⟩) (iblk0 V c 3 ⟨0, h⟩) (iblk0 V c 4 ⟨0, h⟩), sq0 (iblk0 V c 0 ⟨0, h⟩) (iblk0 V c 1 ⟨0, h⟩) (iblk0 V c 2 ⟨0, h⟩) (iblk0 V c 3 ⟨0, h⟩) (iblk0 V c 4 ⟨0, h⟩))
  | m + 1, h => (k0_pay1 (sum0 (iblk0 V c 0 ⟨m + 1, h⟩) (iblk0 V c 1 ⟨m + 1, h⟩) (iblk0 V c 2 ⟨m + 1, h⟩) (iblk0 V c 3 ⟨m + 1, h⟩) (iblk0 V c 4 ⟨m + 1, h⟩)) (rows0 c m (Nat.lt_of_succ_lt h)).1,
      k0_pay2 (sq0 (iblk0 V c 0 ⟨m + 1, h⟩) (iblk0 V c 1 ⟨m + 1, h⟩) (iblk0 V c 2 ⟨m + 1, h⟩) (iblk0 V c 3 ⟨m + 1, h⟩) (iblk0 V c 4 ⟨m + 1, h⟩)) (rows0 c m (Nat.lt_of_succ_lt h)).2)

theorem rows0_zero (c : Dev nD) (t : Fin cfg0.N) (h : t.val = 0) :
    rows0 V c t.val t.isLt = (sum0 (iblk0 V c 0 t) (iblk0 V c 1 t) (iblk0 V c 2 t) (iblk0 V c 3 t) (iblk0 V c 4 t), sq0 (iblk0 V c 0 t) (iblk0 V c 1 t) (iblk0 V c 2 t) (iblk0 V c 3 t) (iblk0 V c 4 t)) := by
  obtain ⟨m, hm⟩ := t; dsimp only at h; subst h; rfl
theorem rows0_succ (c : Dev nD) (t : Fin cfg0.N) (h : t.val ≠ 0) :
    rows0 V c t.val t.isLt = (k0_pay1 (sum0 (iblk0 V c 0 t) (iblk0 V c 1 t) (iblk0 V c 2 t) (iblk0 V c 3 t) (iblk0 V c 4 t)) (rows0 V c (t.val - 1) (Nat.lt_of_le_of_lt (Nat.sub_le _ _) t.isLt)).1,
      k0_pay2 (sq0 (iblk0 V c 0 t) (iblk0 V c 1 t) (iblk0 V c 2 t) (iblk0 V c 3 t) (iblk0 V c 4 t)) (rows0 V c (t.val - 1) (Nat.lt_of_le_of_lt (Nat.sub_le _ _) t.isLt)).2) := by
  obtain ⟨m, hm⟩ := t
  cases m with
  | zero => exact absurd rfl h
  | succ m => rfl

/-- The pipeline's proof data: the arrays as entered, and what the body leaves in each window at each point. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => tile0 (iblk0 V c 0 t) (iblk0 V c 1 t) (iblk0 V c 2 t) (iblk0 V c 3 t) (iblk0 V c 4 t)
    | ⟨6, _⟩ => (rows0 V c t.val t.isLt).1
    | ⟨7, _⟩ => (rows0 V c t.val t.isLt).2
  Φ _ := Pipeline.ΦA spec0 c
  q _ := fullShare
  owed _ := 0

theorem entry0 (c : Dev nD) (w : Fin cfg0.W) : (dat0 V c).A w = V c (Pipeline.arrRef spec0 w) := by dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = tile0 (iblk0 V c 0 t) (iblk0 V c 1 t) (iblk0 V c 2 t) (iblk0 V c 3 t) (iblk0 V c 4 t) := by dsimp only [dat0]
theorem after0_6 (c : Dev nD) (t : Fin cfg0.N) : (dat0 V c).after 6 t = (rows0 V c t.val t.isLt).1 := by dsimp only [dat0]
theorem after0_7 (c : Dev nD) (t : Fin cfg0.N) : (dat0 V c).after 7 t = (rows0 V c t.val t.isLt).2 := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [entry0]; try rfl) t d).trans
    (by unfold Dat.fetched Dat.blockOf iblk0; rw [entry0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [entry0]; try rfl) t d).trans
    (by unfold Dat.fetched Dat.blockOf iblk0; rw [entry0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [entry0]; try rfl) t d).trans
    (by unfold Dat.fetched Dat.blockOf iblk0; rw [entry0]; try rfl)
theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [entry0]; try rfl) t d).trans
    (by unfold Dat.fetched Dat.blockOf iblk0; rw [entry0]; try rfl)
theorem before0_4 (c : Dev nD) (t : Fin cfg0.N) (d) : (dat0 V c).before 4 t d = iblk0 V c 4 t :=
  ((dat0 V c).before_in_eq_fetched 4 rfl (fun _ => rfl) (fun _ _ _ => rfl)
    (fun t => by rw [after0_4]; unfold Dat.blockOf iblk0; rw [entry0]; try rfl) t d).trans
    (by unfold Dat.fetched Dat.blockOf iblk0; rw [entry0]; try rfl)

/-- Window 6 is stored into at every point, -/
theorem live0_6 : ∀ t : Fin cfg0.N, cfg0.idle 6 (grid0.coords t) = false :=
  (by decide +kernel : ∀ t : Fin grid0.N, cfg0.idle 6 (grid0.coords t) = false)
/-- written back after the last point only, -/
def freshAt0_6 : ℕ → Bool
  | 0 => true
  | m + 1 => m == 63
theorem freshAt0_6_step : ∀ t : Fin cfg0.N,
    freshAt0_6 (t.val + 1) = ((cfg0.win 6).flush t || (cfg0.idle 6 (cfg0.grid.coords t) && freshAt0_6 t.val)) := by decide +kernel
theorem fresh0_6 (t : Fin cfg0.N) (h : t.val ≠ 0) : cfg0.fresh 6 t.val = false := by
  rw [Pipeline.Cfg.fresh_tab cfg0 6 freshAt0_6 rfl freshAt0_6_step t.val (Nat.le_of_lt t.isLt)]
  have hN : t.val < 64 := lt_of_lt_of_eq t.isLt (show cfg0.N = 64 from N_0)
  obtain ⟨m, hm⟩ : ∃ m, t.val = m + 1 := Nat.exists_eq_succ_of_ne_zero h
  rw [hm]; show (m == 63) = false
  exact beq_false_of_ne (by omega)
/-- so a later point finds there what the point before left. -/
theorem before0_6 (c : Dev nD) (t : Fin cfg0.N) (h : t.val ≠ 0) (d) :
    (dat0 V c).before 6 t d = (rows0 V c (t.val - 1) (Nat.lt_of_le_of_lt (Nat.sub_le _ _) t.isLt)).1 := by
  rw [Dat.before_out_traj _ 6 rfl (fun _ _ => rfl)
    (fun s _ hi _ => absurd ((live0_6 s).symm.trans hi) Bool.false_ne_true) t.val t rfl d,
    if_neg (by rw [fresh0_6 t h]; exact Bool.false_ne_true)]
  dsimp only [dat0]

/-- Window 7 is stored into at every point, -/
theorem live0_7 : ∀ t : Fin cfg0.N, cfg0.idle 7 (grid0.coords t) = false :=
  (by decide +kernel : ∀ t : Fin grid0.N, cfg0.idle 7 (grid0.coords t) = false)
/-- written back after the last point only, -/
def freshAt0_7 : ℕ → Bool
  | 0 => true
  | m + 1 => m == 63
theorem freshAt0_7_step : ∀ t : Fin cfg0.N,
    freshAt0_7 (t.val + 1) = ((cfg0.win 7).flush t || (cfg0.idle 7 (cfg0.grid.coords t) && freshAt0_7 t.val)) := by decide +kernel
theorem fresh0_7 (t : Fin cfg0.N) (h : t.val ≠ 0) : cfg0.fresh 7 t.val = false := by
  rw [Pipeline.Cfg.fresh_tab cfg0 7 freshAt0_7 rfl freshAt0_7_step t.val (Nat.le_of_lt t.isLt)]
  have hN : t.val < 64 := lt_of_lt_of_eq t.isLt (show cfg0.N = 64 from N_0)
  obtain ⟨m, hm⟩ : ∃ m, t.val = m + 1 := Nat.exists_eq_succ_of_ne_zero h
  rw [hm]; show (m == 63) = false
  exact beq_false_of_ne (by omega)
/-- so a later point finds there what the point before left. -/
theorem before0_7 (c : Dev nD) (t : Fin cfg0.N) (h : t.val ≠ 0) (d) :
    (dat0 V c).before 7 t d = (rows0 V c (t.val - 1) (Nat.lt_of_le_of_lt (Nat.sub_le _ _) t.isLt)).2 := by
  rw [Dat.before_out_traj _ 7 rfl (fun _ _ => rfl)
    (fun s _ hi _ => absurd ((live0_7 s).symm.trans hi) Bool.false_ne_true) t.val t rfl d,
    if_neg (by rw [fresh0_7 t h]; exact Bool.false_ne_true)]
  dsimp only [dat0]

/-- What the body is called with at a point, -/
def pre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def post0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t)

theorem leaves0_0 (c : Dev nD) (t : Fin cfg0.N) :
    (dat0 V c).leavesExact 0 t = owns (c : Thread nD τ) (st0_0 t) fullShare ((dat0 V c).after 0 t) := by
  unfold Dat.leavesExact; rw [show cfg0.idle 0 (grid0.coords t) = false from rfl]
theorem leaves0_1 (c : Dev nD) (t : Fin cfg0.N) :
    (dat0 V c).leavesExact 1 t = owns (c : Thread nD τ) (st0_1 t) fullShare ((dat0 V c).after 1 t) := by
  unfold Dat.leavesExact; rw [show cfg0.idle 1 (grid0.coords t) = false from rfl]
theorem leaves0_2 (c : Dev nD) (t : Fin cfg0.N) :
    (dat0 V c).leavesExact 2 t = owns (c : Thread nD τ) (st0_2 t) fullShare ((dat0 V c).after 2 t) := by
  unfold Dat.leavesExact; rw [show cfg0.idle 2 (grid0.coords t) = false from rfl]
theorem leaves0_3 (c : Dev nD) (t : Fin cfg0.N) :
    (dat0 V c).leavesExact 3 t = owns (c : Thread nD τ) (st0_3 t) fullShare ((dat0 V c).after 3 t) := by
  unfold Dat.leavesExact; rw [show cfg0.idle 3 (grid0.coords t) = false from rfl]
theorem leaves0_4 (c : Dev nD) (t : Fin cfg0.N) :
    (dat0 V c).leavesExact 4 t = owns (c : Thread nD τ) (st0_4 t) fullShare ((dat0 V c).after 4 t) := by
  unfold Dat.leavesExact; rw [show cfg0.idle 4 (grid0.coords t) = false from rfl]
theorem leaves0_5 (c : Dev nD) (t : Fin cfg0.N) :
    (dat0 V c).leavesExact 5 t = owns (c : Thread nD τ) (st0_5 t) fullShare ((dat0 V c).after 5 t) := by
  unfold Dat.leavesExact; rw [show cfg0.idle 5 (grid0.coords t) = false from rfl]
theorem leaves0_6 (c : Dev nD) (t : Fin cfg0.N) :
    (dat0 V c).leavesExact 6 t = owns (c : Thread nD τ) (st0_6 t) fullShare ((dat0 V c).after 6 t) := by
  unfold Dat.leavesExact; rw [live0_6 t]
theorem leaves0_7 (c : Dev nD) (t : Fin cfg0.N) :
    (dat0 V c).leavesExact 7 t = owns (c : Thread nD τ) (st0_7 t) fullShare ((dat0 V c).after 7 t) := by
  unfold Dat.leavesExact; rw [live0_7 t]

set_option maxHeartbeats 1600000 in
/-- The body's obligation at a point. -/
theorem body0 (c : Dev nD) (t : Fin cfg0.N) :
    pre0 V c t ⊢ wp frame (wpE (defs₀ (F := F)) Variants.none c none) Set.univ (bodyAt0 t) (fun _ => post0 V c t) := by
  unfold pre0 post0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl]
  rw [leaves0_0, leaves0_1, leaves0_2, leaves0_3, leaves0_4, leaves0_5, leaves0_6, leaves0_7, after0_0, after0_1, after0_2, after0_3, after0_4, after0_5, after0_6, after0_7]
  by_cases h0 : t.val = 0
  · rw [rows0_zero V c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run0_first c (grid0.coords t) _ _ _ _ _ _ _ _ _ _ _ _ _ _ _ _ ((first0 t).mpr h0) (fun h => (later0 t).mp h h0) (iblk0 V c 0 t) (iblk0 V c 1 t) (iblk0 V c 2 t) (iblk0 V c 3 t) (iblk0 V c 4 t) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    iintro ⟨H0, H1, H2, H3, H4, H5, H6, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [rows0_succ V c t h0]
    simp only [before0_6 V c t h0, before0_7 V c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run0_later c (grid0.coords t) _ _ _ _ _ _ _ _ _ _ _ _ _ _ _ _ (fun h => h0 ((first0 t).mp h)) ((later0 t).mpr h0) (iblk0 V c 0 t) (iblk0 V c 1 t) (iblk0 V c 2 t) (iblk0 V c 3 t) (iblk0 V c 4 t) _ _ Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    iintro ⟨H0, H1, H2, H3, H4, H5, H6, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

theorem row0 (t : Fin cfg0.N) : defs₀ (F := F) .tc cfg0.body (cfg0.bodyArgs t (cfg0.slots t)) = bodyAt0 t := by
  unfold defs₀; rw [Defs.onTc_tc]

/-- The obligation as the pipeline states it. -/
theorem obligation0 (c : Dev nD) : BodyObligation (dat0 (F := F) V c) (defs₀ (F := F)) Variants.none () Set.univ := fun t => by
  rw [bigSep_W0, bigSep_W0, row0]
  exact triple_restated (body0 V c t) rfl .rfl fun _ => .rfl

end Cert.KernelIdeal.Steps

end
-- ==== Proof.KernelIdeal.StageB.lean ====
/- The stage B: first normalisation and second channel mixing. What one run of its body leaves in the output blocks, as
   named functions of the input blocks, the running sums point by point, and the body's obligation to the pipeline. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.TableIdle
public import Idealize.ShloMosaic.Lib.Pipeline.RegionsLoop
public import Idealize.ShloMosaic.Lib.Pipeline.FrameSuffix
public import Idealize.ShloMosaic.Lib.Pipeline.Value
public import Idealize.ShloMosaic.Lib.Ring
public import Idealize.ShloMosaic.Lib.Tactic
public import Idealize.ShloMosaic.Lib.WordCmp

@[expose] public section

set_option maxRecDepth 16384

noncomputable section

namespace Cert.KernelIdeal.Steps

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the buffers when the stage is entered
variable (V : (c : Dev nD) → (b : Ref sig .tc) → Buf (Elt F) ((c : Thread nD τ).loc b))

/-- Window `w`'s block at point `t`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The tile this stage computes, before its leading axis of extent one is put back. -/
def mat1 (x0 : Vec F S1x128x2048 .f32) (x1 x2 x3 x4 : Vec F S1x128 .f32) (x5 : Vec F S128x128 .f32) : Vec F S128x2048 .f32 :=
  k1_pay5 x1 x2 x3 x4 x0 x5
/-- The tile this stage stores. -/
def tile1 (x0 : Vec F S1x128x2048 .f32) (x1 x2 x3 x4 : Vec F S1x128 .f32) (x5 : Vec F S128x128 .f32) : Vec F S1x128x2048 .f32 :=
  k1_pay6 x1 x2 x3 x4 x0 x5
/-- The tile's sum per channel. -/
def sum1 (x0 : Vec F S1x128x2048 .f32) (x1 x2 x3 x4 : Vec F S1x128 .f32) (x5 : Vec F S128x128 .f32) : Vec F S1x128 .f32 :=
  k1_pay1 (mat1 x0 x1 x2 x3 x4 x5)
/-- The tile's sum of squares per channel. -/
def sq1 (x0 : Vec F S1x128x2048 .f32) (x1 x2 x3 x4 : Vec F S1x128 .f32) (x5 : Vec F S128x128 .f32) : Vec F S1x128 .f32 :=
  k1_pay2 (mat1 x0 x1 x2 x3 x4 x5)

theorem zero2_1 : (![0, 0] : Fin 2 → Nat) = fun _ => 0 := funext fun a => by fin_cases a <;> rfl
theorem zero3_1 : (![0, 0, 0] : Fin 3 → Nat) = fun _ => 0 := funext fun a => by fin_cases a <;> rfl

/-- One store of the whole block covers it. -/
theorem coverTile1 (d : Vec F S1x128x2048 .f32) (y : S1x128x2048.Idx) :
    ∃ pc ∈ ([⟨Rect.unit (s := S1x128x2048) ![0, 0, 0] S1x128x2048.size inb_S1x128x2048_S1x128x2048_0_0_0, d⟩] : List (View.Piece (Elt F) S1x128x2048 .f32)), y ∈ pc.1.set :=
  View.cover_of_tiled _ S1x128x2048.size (by rfl) y

/-- One store of the whole row covers it. -/
theorem coverRow1 (d : Vec F S1x128 .f32) (y : S1x128.Idx) :
    ∃ pc ∈ ([⟨Rect.unit (s := S1x128) ![0, 0] S1x128.size inb_S1x128_S1x128_0_0, d⟩] : List (View.Piece (Elt F) S1x128 .f32)), y ∈ pc.1.set :=
  View.cover_of_tiled _ S1x128.size (by rfl) y

/-- The body's first branch is taken at the first point of the grid, -/
theorem first1 : ∀ t : Fin cfg1.N, k1_cond1 (grid1.coords t) = 1#1 ↔ t.val = 0 :=
  (by decide +kernel : ∀ t : Fin grid1.N, k1_cond1 (grid1.coords t) = 1#1 ↔ t.val = 0)
/-- and its second at every other. -/
theorem later1 : ∀ t : Fin cfg1.N, k1_cond2 (grid1.coords t) = 1#1 ↔ t.val ≠ 0 :=
  (by decide +kernel : ∀ t : Fin grid1.N, k1_cond2 (grid1.coords t) = 1#1 ↔ t.val ≠ 0)

set_option maxHeartbeats 1600000 in
/-- The body at the first point: the running rows are set to the tile's own sums. -/
theorem run1_first (c : Dev nD) (i : grid1.Coords)
    (arg2 : Memref sig .tc .vmem S1x128x2048 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128x2048 .f32) (harg8 : arg8.IsWhole) (arg9 : Memref sig .tc .vmem S1x128 .f32) (harg9 : arg9.IsWhole) (arg10 : Memref sig .tc .vmem S1x128 .f32) (harg10 : arg10.IsWhole)
    (hc0 : k1_cond1 i = 1#1) (hc1 : ¬ k1_cond2 i = 1#1)
    (x0 : Vec F S1x128x2048 .f32) (x1 : Vec F S1x128 .f32) (x2 : Vec F S1x128 .f32) (x3 : Vec F S1x128 .f32) (x4 : Vec F S1x128 .f32) (x5 : Vec F S128x128 .f32)  (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (tile1 x0 x1 x2 x3 x4 x5) ∗ owns (c : Thread nD τ) arg9 fullShare (sum1 x0 x1 x2 x3 x4 x5) ∗ owns (c : Thread nD τ) arg10 fullShare (sq1 x0 x1 x2 x3 x4 x5)) -∗ K ⟨⟩))
      ⊢ wp frame (wpE (defs₀ (F := F)) Variants.none c none) E (cc1__stageB_body i arg2 harg2 arg3 harg3 arg4 harg4 arg5 harg5 arg6 harg6 arg7 harg7 arg8 harg8 arg9 harg9 arg10 harg10) K := by
  simp only [cc1__stageB_body_eq_skeleton]; unfold cc1__stageB_body_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  subst hf0 hf1 hf2 hf3 hf4 hf5
  sl_exec (disch := first | sl_exact hc0 | sl_exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    refine (View.read_writes_eq_canon _ _ _ (coverTile1 _)).trans ?_
    rw [View.canon_unit_zero zero3_1]
    sl_unfold_words; simp only [View.readAt_eq_ld, View.ld_unit_zero (S := S128x128) zero2_1, View.ld_unit_zero (S := S1x128) zero2_1, View.ld_unit_zero (S := S1x128x2048) zero3_1]; unfold tile1; rfl
  isplitl [H7]
  · iexists _; isplitr
    swap; · iexact H7
    ipureintro
    refine (View.read_writes_eq_canon _ _ _ (coverRow1 _)).trans ?_
    rw [View.canon_unit_zero zero2_1]
    sl_unfold_words; simp only [View.readAt_eq_ld, View.ld_unit_zero (S := S128x128) zero2_1, View.ld_unit_zero (S := S1x128) zero2_1, View.ld_unit_zero (S := S1x128x2048) zero3_1]; unfold sum1 mat1; rfl
  iexists _; isplitr
  swap; · iexact H8
  ipureintro
  refine (View.read_writes_eq_canon _ _ _ (coverRow1 _)).trans ?_
  rw [View.canon_unit_zero zero2_1]
  sl_unfold_words; simp only [View.readAt_eq_ld, View.ld_unit_zero (S := S128x128) zero2_1, View.ld_unit_zero (S := S1x128) zero2_1, View.ld_unit_zero (S := S1x128x2048) zero3_1]; unfold sq1 mat1; rfl

set_option maxHeartbeats 1600000 in
/-- The body at a later point: the tile's sums are added to the running rows. -/
theorem run1_later (c : Dev nD) (i : grid1.Coords)
    (arg2 : Memref sig .tc .vmem S1x128x2048 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128x2048 .f32) (harg8 : arg8.IsWhole) (arg9 : Memref sig .tc .vmem S1x128 .f32) (harg9 : arg9.IsWhole) (arg10 : Memref sig .tc .vmem S1x128 .f32) (harg10 : arg10.IsWhole)
    (hc0 : ¬ k1_cond1 i = 1#1) (hc1 : k1_cond2 i = 1#1)
    (x0 : Vec F S1x128x2048 .f32) (x1 : Vec F S1x128 .f32) (x2 : Vec F S1x128 .f32) (x3 : Vec F S1x128 .f32) (x4 : Vec F S1x128 .f32) (x5 : Vec F S128x128 .f32) (o0 : Vec F S1x128 .f32) (o1 : Vec F S1x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare o0 ∗ owns (c : Thread nD τ) arg10 fullShare o1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (tile1 x0 x1 x2 x3 x4 x5) ∗ owns (c : Thread nD τ) arg9 fullShare (k1_pay3 (mat1 x0 x1 x2 x3 x4 x5) o0) ∗ owns (c : Thread nD τ) arg10 fullShare (k1_pay4 (mat1 x0 x1 x2 x3 x4 x5) o1)) -∗ K ⟨⟩))
      ⊢ wp frame (wpE (defs₀ (F := F)) Variants.none c none) E (cc1__stageB_body i arg2 harg2 arg3 harg3 arg4 harg4 arg5 harg5 arg6 harg6 arg7 harg7 arg8 harg8 arg9 harg9 arg10 harg10) K := by
  simp only [cc1__stageB_body_eq_skeleton]; unfold cc1__stageB_body_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, Hk⟩
  subst hf0 hf1 hf2 hf3 hf4 hf5 hf7 hf8
  sl_exec (disch := first | sl_exact hc0 | sl_exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    refine (View.read_writes_eq_canon _ _ _ (coverTile1 _)).trans ?_
    rw [View.canon_unit_zero zero3_1]
    sl_unfold_words; simp only [View.readAt_eq_ld, View.ld_unit_zero (S := S128x128) zero2_1, View.ld_unit_zero (S := S1x128) zero2_1, View.ld_unit_zero (S := S1x128x2048) zero3_1]; unfold tile1; rfl
  isplitl [H7]
  · iexists _; isplitr
    swap; · iexact H7
    ipureintro
    refine (View.read_writes_eq_canon _ _ _ (coverRow1 _)).trans ?_
    rw [View.canon_unit_zero zero2_1]
    sl_unfold_words; simp only [View.readAt_eq_ld, View.ld_unit_zero (S := S128x128) zero2_1, View.ld_unit_zero (S := S1x128) zero2_1, View.ld_unit_zero (S := S1x128x2048) zero3_1]; unfold mat1; rfl
  iexists _; isplitr
  swap; · iexact H8
  ipureintro
  refine (View.read_writes_eq_canon _ _ _ (coverRow1 _)).trans ?_
  rw [View.canon_unit_zero zero2_1]
  sl_unfold_words; simp only [View.readAt_eq_ld, View.ld_unit_zero (S := S128x128) zero2_1, View.ld_unit_zero (S := S1x128) zero2_1, View.ld_unit_zero (S := S1x128x2048) zero3_1]; unfold mat1; rfl

/-- The running rows after the point at position `m`. -/
def rows1 (c : Dev nD) : (m : ℕ) → m < cfg1.N → Vec F S1x128 .f32 × Vec F S1x128 .f32
  | 0, h => (sum1 (iblk1 V c 0 ⟨0, h⟩) (iblk1 V c 1 ⟨0, h⟩) (iblk1 V c 2 ⟨0, h⟩) (iblk1 V c 3 ⟨0, h⟩) (iblk1 V c 4 ⟨0, h⟩) (iblk1 V c 5 ⟨0, h⟩), sq1 (iblk1 V c 0 ⟨0, h⟩) (iblk1 V c 1 ⟨0, h⟩) (iblk1 V c 2 ⟨0, h⟩) (iblk1 V c 3 ⟨0, h⟩) (iblk1 V c 4 ⟨0, h⟩) (iblk1 V c 5 ⟨0, h⟩))
  | m + 1, h => (k1_pay3 (mat1 (iblk1 V c 0 ⟨m + 1, h⟩) (iblk1 V c 1 ⟨m + 1, h⟩) (iblk1 V c 2 ⟨m + 1, h⟩) (iblk1 V c 3 ⟨m + 1, h⟩) (iblk1 V c 4 ⟨m + 1, h⟩) (iblk1 V c 5 ⟨m + 1, h⟩)) (rows1 c m (Nat.lt_of_succ_lt h)).1,
      k1_pay4 (mat1 (iblk1 V c 0 ⟨m + 1, h⟩) (iblk1 V c 1 ⟨m + 1, h⟩) (iblk1 V c 2 ⟨m + 1, h⟩) (iblk1 V c 3 ⟨m + 1, h⟩) (iblk1 V c 4 ⟨m + 1, h⟩) (iblk1 V c 5 ⟨m + 1, h⟩)) (rows1 c m (Nat.lt_of_succ_lt h)).2)

theorem rows1_zero (c : Dev nD) (t : Fin cfg1.N) (h : t.val = 0) :
    rows1 V c t.val t.isLt = (sum1 (iblk1 V c 0 t) (iblk1 V c 1 t) (iblk1 V c 2 t) (iblk1 V c 3 t) (iblk1 V c 4 t) (iblk1 V c 5 t), sq1 (iblk1 V c 0 t) (iblk1 V c 1 t) (iblk1 V c 2 t) (iblk1 V c 3 t) (iblk1 V c 4 t) (iblk1 V c 5 t)) := by
  obtain ⟨m, hm⟩ := t; dsimp only at h; subst h; rfl
theorem rows1_succ (c : Dev nD) (t : Fin cfg1.N) (h : t.val ≠ 0) :
    rows1 V c t.val t.isLt = (k1_pay3 (mat1 (iblk1 V c 0 t) (iblk1 V c 1 t) (iblk1 V c 2 t) (iblk1 V c 3 t) (iblk1 V c 4 t) (iblk1 V c 5 t)) (rows1 V c (t.val - 1) (Nat.lt_of_le_of_lt (Nat.sub_le _ _) t.isLt)).1,
      k1_pay4 (mat1 (iblk1 V c 0 t) (iblk1 V c 1 t) (iblk1 V c 2 t) (iblk1 V c 3 t) (iblk1 V c 4 t) (iblk1 V c 5 t)) (rows1 V c (t.val - 1) (Nat.lt_of_le_of_lt (Nat.sub_le _ _) t.isLt)).2) := by
  obtain ⟨m, hm⟩ := t
  cases m with
  | zero => exact absurd rfl h
  | succ m => rfl

/-- The pipeline's proof data: the arrays as entered, and what the body leaves in each window at each point. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => tile1 (iblk1 V c 0 t) (iblk1 V c 1 t) (iblk1 V c 2 t) (iblk1 V c 3 t) (iblk1 V c 4 t) (iblk1 V c 5 t)
    | ⟨7, _⟩ => (rows1 V c t.val t.isLt).1
    | ⟨8, _⟩ => (rows1 V c t.val t.isLt).2
  Φ _ := Pipeline.ΦA spec1 c
  q _ := fullShare
  owed _ := 0

theorem entry1 (c : Dev nD) (w : Fin cfg1.W) : (dat1 V c).A w = V c (Pipeline.arrRef spec1 w) := by dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = tile1 (iblk1 V c 0 t) (iblk1 V c 1 t) (iblk1 V c 2 t) (iblk1 V c 3 t) (iblk1 V c 4 t) (iblk1 V c 5 t) := by dsimp only [dat1]
theorem after1_7 (c : Dev nD) (t : Fin cfg1.N) : (dat1 V c).after 7 t = (rows1 V c t.val t.isLt).1 := by dsimp only [dat1]
theorem after1_8 (c : Dev nD) (t : Fin cfg1.N) : (dat1 V c).after 8 t = (rows1 V c t.val t.isLt).2 := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [entry1]; try rfl) t d).trans
    (by unfold Dat.fetched Dat.blockOf iblk1; rw [entry1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [entry1]; try rfl) t d).trans
    (by unfold Dat.fetched Dat.blockOf iblk1; rw [entry1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [entry1]; try rfl) t d).trans
    (by unfold Dat.fetched Dat.blockOf iblk1; rw [entry1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [entry1]; try rfl) t d).trans
    (by unfold Dat.fetched Dat.blockOf iblk1; rw [entry1]; try rfl)
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [entry1]; try rfl) t d).trans
    (by unfold Dat.fetched Dat.blockOf iblk1; rw [entry1]; try rfl)
theorem before1_5 (c : Dev nD) (t : Fin cfg1.N) (d) : (dat1 V c).before 5 t d = iblk1 V c 5 t :=
  ((dat1 V c).before_in_eq_fetched 5 rfl (fun _ => rfl) (fun _ _ _ => rfl)
    (fun t => by rw [after1_5]; unfold Dat.blockOf iblk1; rw [entry1]; try rfl) t d).trans
    (by unfold Dat.fetched Dat.blockOf iblk1; rw [entry1]; try rfl)

/-- Window 7 is stored into at every point, -/
theorem live1_7 : ∀ t : Fin cfg1.N, cfg1.idle 7 (grid1.coords t) = false :=
  (by decide +kernel : ∀ t : Fin grid1.N, cfg1.idle 7 (grid1.coords t) = false)
/-- written back after the last point only, -/
def freshAt1_7 : ℕ → Bool
  | 0 => true
  | m + 1 => m == 15
theorem freshAt1_7_step : ∀ t : Fin cfg1.N,
    freshAt1_7 (t.val + 1) = ((cfg1.win 7).flush t || (cfg1.idle 7 (cfg1.grid.coords t) && freshAt1_7 t.val)) := by decide +kernel
theorem fresh1_7 (t : Fin cfg1.N) (h : t.val ≠ 0) : cfg1.fresh 7 t.val = false := by
  rw [Pipeline.Cfg.fresh_tab cfg1 7 freshAt1_7 rfl freshAt1_7_step t.val (Nat.le_of_lt t.isLt)]
  have hN : t.val < 16 := lt_of_lt_of_eq t.isLt (show cfg1.N = 16 from N_1)
  obtain ⟨m, hm⟩ : ∃ m, t.val = m + 1 := Nat.exists_eq_succ_of_ne_zero h
  rw [hm]; show (m == 15) = false
  exact beq_false_of_ne (by omega)
/-- so a later point finds there what the point before left. -/
theorem before1_7 (c : Dev nD) (t : Fin cfg1.N) (h : t.val ≠ 0) (d) :
    (dat1 V c).before 7 t d = (rows1 V c (t.val - 1) (Nat.lt_of_le_of_lt (Nat.sub_le _ _) t.isLt)).1 := by
  rw [Dat.before_out_traj _ 7 rfl (fun _ _ => rfl)
    (fun s _ hi _ => absurd ((live1_7 s).symm.trans hi) Bool.false_ne_true) t.val t rfl d,
    if_neg (by rw [fresh1_7 t h]; exact Bool.false_ne_true)]
  dsimp only [dat1]

/-- Window 8 is stored into at every point, -/
theorem live1_8 : ∀ t : Fin cfg1.N, cfg1.idle 8 (grid1.coords t) = false :=
  (by decide +kernel : ∀ t : Fin grid1.N, cfg1.idle 8 (grid1.coords t) = false)
/-- written back after the last point only, -/
def freshAt1_8 : ℕ → Bool
  | 0 => true
  | m + 1 => m == 15
theorem freshAt1_8_step : ∀ t : Fin cfg1.N,
    freshAt1_8 (t.val + 1) = ((cfg1.win 8).flush t || (cfg1.idle 8 (cfg1.grid.coords t) && freshAt1_8 t.val)) := by decide +kernel
theorem fresh1_8 (t : Fin cfg1.N) (h : t.val ≠ 0) : cfg1.fresh 8 t.val = false := by
  rw [Pipeline.Cfg.fresh_tab cfg1 8 freshAt1_8 rfl freshAt1_8_step t.val (Nat.le_of_lt t.isLt)]
  have hN : t.val < 16 := lt_of_lt_of_eq t.isLt (show cfg1.N = 16 from N_1)
  obtain ⟨m, hm⟩ : ∃ m, t.val = m + 1 := Nat.exists_eq_succ_of_ne_zero h
  rw [hm]; show (m == 15) = false
  exact beq_false_of_ne (by omega)
/-- so a later point finds there what the point before left. -/
theorem before1_8 (c : Dev nD) (t : Fin cfg1.N) (h : t.val ≠ 0) (d) :
    (dat1 V c).before 8 t d = (rows1 V c (t.val - 1) (Nat.lt_of_le_of_lt (Nat.sub_le _ _) t.isLt)).2 := by
  rw [Dat.before_out_traj _ 8 rfl (fun _ _ => rfl)
    (fun s _ hi _ => absurd ((live1_8 s).symm.trans hi) Bool.false_ne_true) t.val t rfl d,
    if_neg (by rw [fresh1_8 t h]; exact Bool.false_ne_true)]
  dsimp only [dat1]

/-- What the body is called with at a point, -/
def pre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))

/-- and what it returns. -/
def post1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t)

theorem leaves1_0 (c : Dev nD) (t : Fin cfg1.N) :
    (dat1 V c).leavesExact 0 t = owns (c : Thread nD τ) (st1_0 t) fullShare ((dat1 V c).after 0 t) := by
  unfold Dat.leavesExact; rw [show cfg1.idle 0 (grid1.coords t) = false from rfl]
theorem leaves1_1 (c : Dev nD) (t : Fin cfg1.N) :
    (dat1 V c).leavesExact 1 t = owns (c : Thread nD τ) (st1_1 t) fullShare ((dat1 V c).after 1 t) := by
  unfold Dat.leavesExact; rw [show cfg1.idle 1 (grid1.coords t) = false from rfl]
theorem leaves1_2 (c : Dev nD) (t : Fin cfg1.N) :
    (dat1 V c).leavesExact 2 t = owns (c : Thread nD τ) (st1_2 t) fullShare ((dat1 V c).after 2 t) := by
  unfold Dat.leavesExact; rw [show cfg1.idle 2 (grid1.coords t) = false from rfl]
theorem leaves1_3 (c : Dev nD) (t : Fin cfg1.N) :
    (dat1 V c).leavesExact 3 t = owns (c : Thread nD τ) (st1_3 t) fullShare ((dat1 V c).after 3 t) := by
  unfold Dat.leavesExact; rw [show cfg1.idle 3 (grid1.coords t) = false from rfl]
theorem leaves1_4 (c : Dev nD) (t : Fin cfg1.N) :
    (dat1 V c).leavesExact 4 t = owns (c : Thread nD τ) (st1_4 t) fullShare ((dat1 V c).after 4 t) := by
  unfold Dat.leavesExact; rw [show cfg1.idle 4 (grid1.coords t) = false from rfl]
theorem leaves1_5 (c : Dev nD) (t : Fin cfg1.N) :
    (dat1 V c).leavesExact 5 t = owns (c : Thread nD τ) (st1_5 t) fullShare ((dat1 V c).after 5 t) := by
  unfold Dat.leavesExact; rw [show cfg1.idle 5 (grid1.coords t) = false from rfl]
theorem leaves1_6 (c : Dev nD) (t : Fin cfg1.N) :
    (dat1 V c).leavesExact 6 t = owns (c : Thread nD τ) (st1_6 t) fullShare ((dat1 V c).after 6 t) := by
  unfold Dat.leavesExact; rw [show cfg1.idle 6 (grid1.coords t) = false from rfl]
theorem leaves1_7 (c : Dev nD) (t : Fin cfg1.N) :
    (dat1 V c).leavesExact 7 t = owns (c : Thread nD τ) (st1_7 t) fullShare ((dat1 V c).after 7 t) := by
  unfold Dat.leavesExact; rw [live1_7 t]
theorem leaves1_8 (c : Dev nD) (t : Fin cfg1.N) :
    (dat1 V c).leavesExact 8 t = owns (c : Thread nD τ) (st1_8 t) fullShare ((dat1 V c).after 8 t) := by
  unfold Dat.leavesExact; rw [live1_8 t]

set_option maxHeartbeats 1600000 in
/-- The body's obligation at a point. -/
theorem body1 (c : Dev nD) (t : Fin cfg1.N) :
    pre1 V c t ⊢ wp frame (wpE (defs₀ (F := F)) Variants.none c none) Set.univ (bodyAt1 t) (fun _ => post1 V c t) := by
  unfold pre1 post1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl]
  rw [leaves1_0, leaves1_1, leaves1_2, leaves1_3, leaves1_4, leaves1_5, leaves1_6, leaves1_7, leaves1_8, after1_0, after1_1, after1_2, after1_3, after1_4, after1_5, after1_6, after1_7, after1_8]
  by_cases h0 : t.val = 0
  · rw [rows1_zero V c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run1_first c (grid1.coords t) _ _ _ _ _ _ _ _ _ _ _ _ _ _ _ _ _ _ ((first1 t).mpr h0) (fun h => (later1 t).mp h h0) (iblk1 V c 0 t) (iblk1 V c 1 t) (iblk1 V c 2 t) (iblk1 V c 3 t) (iblk1 V c 4 t) (iblk1 V c 5 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    iintro ⟨H0, H1, H2, H3, H4, H5, H6, H7, H8⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · rw [rows1_succ V c t h0]
    simp only [before1_7 V c t h0, before1_8 V c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run1_later c (grid1.coords t) _ _ _ _ _ _ _ _ _ _ _ _ _ _ _ _ _ _ (fun h => h0 ((first1 t).mp h)) ((later1 t).mpr h0) (iblk1 V c 0 t) (iblk1 V c 1 t) (iblk1 V c 2 t) (iblk1 V c 3 t) (iblk1 V c 4 t) (iblk1 V c 5 t) _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    iintro ⟨H0, H1, H2, H3, H4, H5, H6, H7, H8⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

theorem row1 (t : Fin cfg1.N) : defs₀ (F := F) .tc cfg1.body (cfg1.bodyArgs t (cfg1.slots t)) = bodyAt1 t := by
  unfold defs₀; rw [Defs.onTc_tc]

/-- The obligation as the pipeline states it. -/
theorem obligation1 (c : Dev nD) : BodyObligation (dat1 (F := F) V c) (defs₀ (F := F)) Variants.none () Set.univ := fun t => by
  rw [bigSep_W1, bigSep_W1, row1]
  exact triple_restated (body1 V c t) rfl .rfl fun _ => .rfl

end Cert.KernelIdeal.Steps

end
-- ==== Proof.KernelIdeal.StageC.lean ====
/- The stage C: second normalisation. What one run of its body leaves in the output blocks, as
   named functions of the input blocks, the running sums point by point, and the body's obligation to the pipeline. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.TableIdle
public import Idealize.ShloMosaic.Lib.Pipeline.RegionsLoop
public import Idealize.ShloMosaic.Lib.Pipeline.FrameSuffix
public import Idealize.ShloMosaic.Lib.Pipeline.Value
public import Idealize.ShloMosaic.Lib.Ring
public import Idealize.ShloMosaic.Lib.Tactic
public import Idealize.ShloMosaic.Lib.WordCmp

@[expose] public section

set_option maxRecDepth 16384

noncomputable section

namespace Cert.KernelIdeal.Steps

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the buffers when the stage is entered
variable (V : (c : Dev nD) → (b : Ref sig .tc) → Buf (Elt F) ((c : Thread nD τ).loc b))

/-- Window `w`'s block at point `t`. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The tile this stage stores. -/
def tile2 (x0 : Vec F S1x128x2048 .f32) (x1 x2 x3 x4 : Vec F S1x128 .f32) : Vec F S1x128x2048 .f32 :=
  k2_pay1 x1 x2 x3 x4 x0

theorem zero2_2 : (![0, 0] : Fin 2 → Nat) = fun _ => 0 := funext fun a => by fin_cases a <;> rfl
theorem zero3_2 : (![0, 0, 0] : Fin 3 → Nat) = fun _ => 0 := funext fun a => by fin_cases a <;> rfl

/-- One store of the whole block covers it. -/
theorem coverTile2 (d : Vec F S1x128x2048 .f32) (y : S1x128x2048.Idx) :
    ∃ pc ∈ ([⟨Rect.unit (s := S1x128x2048) ![0, 0, 0] S1x128x2048.size inb_S1x128x2048_S1x128x2048_0_0_0, d⟩] : List (View.Piece (Elt F) S1x128x2048 .f32)), y ∈ pc.1.set :=
  View.cover_of_tiled _ S1x128x2048.size (by rfl) y

set_option maxHeartbeats 1600000 in
/-- The body: its tile stored, its inputs as they were. -/
theorem run2 (c : Dev nD) (i : grid2.Coords)
    (arg2 : Memref sig .tc .vmem S1x128x2048 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128x2048 .f32) (harg7 : arg7.IsWhole)

    (x0 : Vec F S1x128x2048 .f32) (x1 : Vec F S1x128 .f32) (x2 : Vec F S1x128 .f32) (x3 : Vec F S1x128 .f32) (x4 : Vec F S1x128 .f32)  (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (tile2 x0 x1 x2 x3 x4)) -∗ K ⟨⟩))
      ⊢ wp frame (wpE (defs₀ (F := F)) Variants.none c none) E (cc2__stageC_body i arg2 harg2 arg3 harg3 arg4 harg4 arg5 harg5 arg6 harg6 arg7 harg7) K := by
  simp only [cc2__stageC_body_eq_skeleton]; unfold cc2__stageC_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  refine (View.read_writes_eq_canon _ _ _ (coverTile2 _)).trans ?_
  rw [View.canon_unit_zero zero3_2]
  simp only [View.readAt_eq_ld, View.ld_unit_zero (S := S1x128) zero2_2, View.ld_unit_zero (S := S1x128x2048) zero3_2]; rfl

/-- The pipeline's proof data: the arrays as entered, and what the body leaves in each window at each point. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => tile2 (iblk2 V c 0 t) (iblk2 V c 1 t) (iblk2 V c 2 t) (iblk2 V c 3 t) (iblk2 V c 4 t)
  Φ _ := Pipeline.ΦA spec2 c
  q _ := fullShare
  owed _ := 0

theorem entry2 (c : Dev nD) (w : Fin cfg2.W) : (dat2 V c).A w = V c (Pipeline.arrRef spec2 w) := by dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = tile2 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [entry2]; try rfl) t d).trans
    (by unfold Dat.fetched Dat.blockOf iblk2; rw [entry2]; try rfl)
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [entry2]; try rfl) t d).trans
    (by unfold Dat.fetched Dat.blockOf iblk2; rw [entry2]; try rfl)
theorem before2_2 (c : Dev nD) (t : Fin cfg2.N) (d) : (dat2 V c).before 2 t d = iblk2 V c 2 t :=
  ((dat2 V c).before_in_eq_fetched 2 rfl (fun _ => rfl) (fun _ _ _ => rfl)
    (fun t => by rw [after2_2]; unfold Dat.blockOf iblk2; rw [entry2]; try rfl) t d).trans
    (by unfold Dat.fetched Dat.blockOf iblk2; rw [entry2]; try rfl)
theorem before2_3 (c : Dev nD) (t : Fin cfg2.N) (d) : (dat2 V c).before 3 t d = iblk2 V c 3 t :=
  ((dat2 V c).before_in_eq_fetched 3 rfl (fun _ => rfl) (fun _ _ _ => rfl)
    (fun t => by rw [after2_3]; unfold Dat.blockOf iblk2; rw [entry2]; try rfl) t d).trans
    (by unfold Dat.fetched Dat.blockOf iblk2; rw [entry2]; try rfl)
theorem before2_4 (c : Dev nD) (t : Fin cfg2.N) (d) : (dat2 V c).before 4 t d = iblk2 V c 4 t :=
  ((dat2 V c).before_in_eq_fetched 4 rfl (fun _ => rfl) (fun _ _ _ => rfl)
    (fun t => by rw [after2_4]; unfold Dat.blockOf iblk2; rw [entry2]; try rfl) t d).trans
    (by unfold Dat.fetched Dat.blockOf iblk2; rw [entry2]; try rfl)

/-- What the body is called with at a point, -/
def pre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def post2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

set_option maxHeartbeats 1600000 in
/-- The body's obligation at a point. -/
theorem body2 (c : Dev nD) (t : Fin cfg2.N) :
    pre2 V c t ⊢ wp frame (wpE (defs₀ (F := F)) Variants.none c none) Set.univ (bodyAt2 t) (fun _ => post2 V c t) := by
  unfold pre2 post2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl]
  rw [after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (run2 c (grid2.coords t) _ _ _ _ _ _ _ _ _ _ _ _ (iblk2 V c 0 t) (iblk2 V c 1 t) (iblk2 V c 2 t) (iblk2 V c 3 t) (iblk2 V c 4 t) Set.univ _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem row2 (t : Fin cfg2.N) : defs₀ (F := F) .tc cfg2.body (cfg2.bodyArgs t (cfg2.slots t)) = bodyAt2 t := by
  unfold defs₀; rw [Defs.onTc_tc]

/-- The obligation as the pipeline states it. -/
theorem obligation2 (c : Dev nD) : BodyObligation (dat2 (F := F) V c) (defs₀ (F := F)) Variants.none () Set.univ := fun t => by
  rw [bigSep_W2, bigSep_W2, row2]
  exact triple_restated (body2 V c t) rfl .rfl fun _ => .rfl

end Cert.KernelIdeal.Steps

end
-- ==== Proof.KernelIdeal.Run.lean ====
/- The whole program: its three stages among the host operations that reshape the per-channel vectors, from the
   launch to the return. Every buffer is followed through the stages, so that the end state is known exactly. -/
module

public import proofs.«01_k».proof.Proof.KernelIdeal.StageA
public import proofs.«01_k».proof.Proof.KernelIdeal.StageB
public import proofs.«01_k».proof.Proof.KernelIdeal.StageC

@[expose] public section

set_option maxRecDepth 16384

noncomputable section

namespace Cert.KernelIdeal.Steps

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The argument arrays. -/
abbrev args : List (Ref sig .tc) := [main_arg0, main_arg1, main_arg2, main_arg3, main_arg4, main_arg5, main_arg6, main_arg7, main_arg8, main_arg9, main_arg10, main_arg11]

theorem fresh_host0 : (hostOps0 : List (HloOp τ sig (Elt F))).Forall fun op => op.fresh = ∅ := by
  simp only [List.Forall]; repeat' constructor
/-- What host stretch 0 writes. -/
abbrev written0 : List (Ref sig .tc) := [main_v0, main_v1]
theorem writes0 : (hostOps0 : List (HloOp τ sig (Elt F))).Forall fun op => op.writes ⊆ (written0.map (Proc.devRef (τ := τ) .tc)).toFinset :=
  StableHlo.forall_writes_sub_of_map rfl
theorem args_not_written0 : ∀ a ∈ args, a ∉ written0 := ListAll.forall_mem_of_all_decide (by decide +kernel)

theorem fresh_host1 : (hostOps1 : List (HloOp τ sig (Elt F))).Forall fun op => op.fresh = ∅ := by
  simp only [List.Forall]; repeat' constructor
/-- What host stretch 1 writes. -/
abbrev written1 : List (Ref sig .tc) := [main_v3, main_v4]
theorem writes1 : (hostOps1 : List (HloOp τ sig (Elt F))).Forall fun op => op.writes ⊆ (written1.map (Proc.devRef (τ := τ) .tc)).toFinset :=
  StableHlo.forall_writes_sub_of_map rfl
theorem args_not_written1 : ∀ a ∈ args, a ∉ written1 := ListAll.forall_mem_of_all_decide (by decide +kernel)

theorem fresh_host2 : (hostOps2 : List (HloOp τ sig (Elt F))).Forall fun op => op.fresh = ∅ := by
  simp only [List.Forall]; repeat' constructor
/-- What host stretch 2 writes. -/
abbrev written2 : List (Ref sig .tc) := [main_v6, main_v7]
theorem writes2 : (hostOps2 : List (HloOp τ sig (Elt F))).Forall fun op => op.writes ⊆ (written2.map (Proc.devRef (τ := τ) .tc)).toFinset :=
  StableHlo.forall_writes_sub_of_map rfl
theorem args_not_written2 : ∀ a ∈ args, a ∉ written2 := ListAll.forall_mem_of_all_decide (by decide +kernel)

/-- The buffers at launch. -/
abbrev W0 : Dev nD → Valuation τ sig (Elt F) := fun c b => (s₀ m ρ).mem ((c : Dev nD), b)
theorem W0_args (c : Dev nD) : ∀ a ∈ args, W0 m ρ c (Proc.devRef .tc a) = m ((c : Thread nD τ).loc a) := fun _ _ => rfl

/-- The buffers when stage 0 is entered, -/
abbrev W1 : Dev nD → Valuation τ sig (Elt F) := fun c => StableHlo.after hostOps0 (W0 m ρ c)
theorem W1_of (c : Dev nD) (r : Ref sig .tc) (h : r ∉ written0) : W1 m ρ c (Proc.devRef .tc r) = W0 m ρ c (Proc.devRef .tc r) :=
  StableHlo.after_of_writes_sub hostOps0 _ writes0 h
theorem W1_args (c : Dev nD) : ∀ a ∈ args, W1 m ρ c (Proc.devRef .tc a) = m ((c : Thread nD τ).loc a) :=
  fun a ha => (W1_of m ρ c a (args_not_written0 a ha)).trans (W0_args m ρ c a ha)
abbrev V1 : (c : Dev nD) → (b : Ref sig .tc) → Buf (Elt F) ((c : Thread nD τ).loc b) := fun c b => W1 m ρ c b
/-- and when it is left. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (entry0 (V1 m ρ) c w))
  · exact W2_of_ne m ρ c r fun w e => hw ⟨w, e⟩
theorem args_in0 : ∀ a ∈ args, ∀ w : Fin cfg0.W, Pipeline.arrRef spec0 w = a → (cfg0.win w).isOut = false :=
  ListAll.forall_mem_of_all_decide (by decide +kernel)
theorem W2_args (c : Dev nD) : ∀ a ∈ args, W2 m ρ c (Proc.devRef .tc a) = m ((c : Thread nD τ).loc a) :=
  fun a ha => (W2_of m ρ c a (args_in0 a ha)).trans (W1_args m ρ c a ha)
abbrev V2 : (c : Dev nD) → (b : Ref sig .tc) → Buf (Elt F) ((c : Thread nD τ).loc b) := fun c b => W2 m ρ c b
theorem left0 (c : Dev nD) (w : Fin cfg0.W) : (dat0 (V1 m ρ) c).arrAt w cfg0.N = V2 m ρ c (Pipeline.arrRef spec0 w) :=
  (W2_arr m ρ c w).symm
theorem rest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- The buffers when stage 1 is entered, -/
abbrev W3 : Dev nD → Valuation τ sig (Elt F) := fun c => StableHlo.after hostOps1 (W2 m ρ c)
theorem W3_of (c : Dev nD) (r : Ref sig .tc) (h : r ∉ written1) : W3 m ρ c (Proc.devRef .tc r) = W2 m ρ c (Proc.devRef .tc r) :=
  StableHlo.after_of_writes_sub hostOps1 _ writes1 h
theorem W3_args (c : Dev nD) : ∀ a ∈ args, W3 m ρ c (Proc.devRef .tc a) = m ((c : Thread nD τ).loc a) :=
  fun a ha => (W3_of m ρ c a (args_not_written1 a ha)).trans (W2_args m ρ c a ha)
abbrev V3 : (c : Dev nD) → (b : Ref sig .tc) → Buf (Elt F) ((c : Thread nD τ).loc b) := fun c b => W3 m ρ c b
/-- and when it is left. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (entry1 (V3 m ρ) c w))
  · exact W4_of_ne m ρ c r fun w e => hw ⟨w, e⟩
theorem args_in1 : ∀ a ∈ args, ∀ w : Fin cfg1.W, Pipeline.arrRef spec1 w = a → (cfg1.win w).isOut = false :=
  ListAll.forall_mem_of_all_decide (by decide +kernel)
theorem W4_args (c : Dev nD) : ∀ a ∈ args, W4 m ρ c (Proc.devRef .tc a) = m ((c : Thread nD τ).loc a) :=
  fun a ha => (W4_of m ρ c a (args_in1 a ha)).trans (W3_args m ρ c a ha)
abbrev V4 : (c : Dev nD) → (b : Ref sig .tc) → Buf (Elt F) ((c : Thread nD τ).loc b) := fun c b => W4 m ρ c b
theorem left1 (c : Dev nD) (w : Fin cfg1.W) : (dat1 (V3 m ρ) c).arrAt w cfg1.N = V4 m ρ c (Pipeline.arrRef spec1 w) :=
  (W4_arr m ρ c w).symm
theorem rest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- The buffers when stage 2 is entered, -/
abbrev W5 : Dev nD → Valuation τ sig (Elt F) := fun c => StableHlo.after hostOps2 (W4 m ρ c)
theorem W5_of (c : Dev nD) (r : Ref sig .tc) (h : r ∉ written2) : W5 m ρ c (Proc.devRef .tc r) = W4 m ρ c (Proc.devRef .tc r) :=
  StableHlo.after_of_writes_sub hostOps2 _ writes2 h
theorem W5_args (c : Dev nD) : ∀ a ∈ args, W5 m ρ c (Proc.devRef .tc a) = m ((c : Thread nD τ).loc a) :=
  fun a ha => (W5_of m ρ c a (args_not_written2 a ha)).trans (W4_args m ρ c a ha)
abbrev V5 : (c : Dev nD) → (b : Ref sig .tc) → Buf (Elt F) ((c : Thread nD τ).loc b) := fun c b => W5 m ρ c b
/-- and when it is left. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
theorem W6_of (c : Dev nD) (r : Ref sig .tc) (h : ∀ w : Fin cfg2.W, Pipeline.arrRef spec2 w = r → (cfg2.win w).isOut = false) :
    W6 m ρ c (Proc.devRef .tc r) = W5 m ρ c (Proc.devRef .tc r) := by
  by_cases hw : ∃ w : Fin cfg2.W, Pipeline.arrRef spec2 w = r
  · obtain ⟨w, rfl⟩ := hw
    exact (W6_arr m ρ c w).trans (((dat2 (V5 m ρ) c).arrAt_in w (h w rfl) _).trans (entry2 (V5 m ρ) c w))
  · exact W6_of_ne m ρ c r fun w e => hw ⟨w, e⟩
theorem args_in2 : ∀ a ∈ args, ∀ w : Fin cfg2.W, Pipeline.arrRef spec2 w = a → (cfg2.win w).isOut = false :=
  ListAll.forall_mem_of_all_decide (by decide +kernel)
theorem W6_args (c : Dev nD) : ∀ a ∈ args, W6 m ρ c (Proc.devRef .tc a) = m ((c : Thread nD τ).loc a) :=
  fun a ha => (W6_of m ρ c a (args_in2 a ha)).trans (W5_args m ρ c a ha)
abbrev V6 : (c : Dev nD) → (b : Ref sig .tc) → Buf (Elt F) ((c : Thread nD τ).loc b) := fun c b => W6 m ρ c b
theorem left2 (c : Dev nD) (w : Fin cfg2.W) : (dat2 (V5 m ρ) c).arrAt w cfg2.N = V6 m ρ c (Pipeline.arrRef spec2 w) :=
  (W6_arr m ρ c w).symm
theorem rest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

abbrev adm : (p : Fin 3) → (pcfgs (F := F) p).Adm := fun p => (cfgs p).toPCfg_adm
/-- Every stage's proof data, at what it is entered with. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev noVariants : Variants := Variants.none
abbrev noLevel : GSem nD τ sig → Finset Unit := fun _ => ∅
abbrev level0 : GSem nD τ sig → Unit → ℕ := fun _ _ => 0
/-- What rides beside the buffers: the generator register and an empty debt. -/
abbrev Beside (c : Dev nD) : sProp 𝕄 := iprop((∃ r, prngReg c r) ∗ ∃ W, owes (c : Thread nD τ) (0 : CellTallies nD τ sig Unit) W)
/-- A host stretch as a segment of the run. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVariants noLevel level0 :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Beside

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The thread's state at the return. -/
abbrev AtEnd (c : Dev nD) : sProp 𝕄 := iprop(StableHlo.held (c : Thread nD τ) (Pipeline.ucRefs τ sig) (W6 m ρ c) ∗ ∃ r, prngReg c r)

set_option backward.isDefEq.respectTransparency.types false in
/-- Stage 0 as a segment of the run, from the buffers it is entered with to those it leaves. -/
def stage0 : Pipeline.RegionSeg (pcfgs (F := F)) adm (pdats m ρ) () defs₀ noVariants noLevel level0 0 where
  win := launch0.win.to₀
  block_pos := launch0.block_pos
  stage_whole := launch0.stage_whole
  K := PEmpty
  osem k := k.elim
  ho := Pipeline.OwnSemFacts.none _
  hbody c := (obligation0 (V1 m ρ) c).loose
  hwaits := Pipeline.hwaits_of_owed_zero _ _ _ _ noLevel level0 0 fun _ _ => rfl
  pre c := iprop(StableHlo.held (c : Thread nD τ) (Pipeline.ucRefs τ sig) (W1 m ρ c) ∗ Beside c)
  post c := iprop(StableHlo.held (c : Thread nD τ) (Pipeline.ucRefs τ sig) (W2 m ρ c) ∗ Beside c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (entry0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (left0 m ρ c) (rest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Stage 1 as a segment of the run, from the buffers it is entered with to those it leaves. -/
def stage1 : Pipeline.RegionSeg (pcfgs (F := F)) adm (pdats m ρ) () defs₀ noVariants noLevel level0 1 where
  win := launch1.win.to₀
  block_pos := launch1.block_pos
  stage_whole := launch1.stage_whole
  K := PEmpty
  osem k := k.elim
  ho := Pipeline.OwnSemFacts.none _
  hbody c := (obligation1 (V3 m ρ) c).loose
  hwaits := Pipeline.hwaits_of_owed_zero _ _ _ _ noLevel level0 1 fun _ _ => rfl
  pre c := iprop(StableHlo.held (c : Thread nD τ) (Pipeline.ucRefs τ sig) (W3 m ρ c) ∗ Beside c)
  post c := iprop(StableHlo.held (c : Thread nD τ) (Pipeline.ucRefs τ sig) (W4 m ρ c) ∗ Beside c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (entry1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (left1 m ρ c) (rest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Stage 2 as a segment of the run, from the buffers it is entered with to those it leaves. -/
def stage2 : Pipeline.RegionSeg (pcfgs (F := F)) adm (pdats m ρ) () defs₀ noVariants noLevel level0 2 where
  win := launch2.win.to₀
  block_pos := launch2.block_pos
  stage_whole := launch2.stage_whole
  K := PEmpty
  osem k := k.elim
  ho := Pipeline.OwnSemFacts.none _
  hbody c := (obligation2 (V5 m ρ) c).loose
  hwaits := Pipeline.hwaits_of_owed_zero _ _ _ _ noLevel level0 2 fun _ _ => rfl
  pre c := iprop(StableHlo.held (c : Thread nD τ) (Pipeline.ucRefs τ sig) (W5 m ρ c) ∗ Beside c)
  post c := iprop(AtEnd m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) (entry2 (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (left2 m ρ c) (rest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- The program's segments in order. -/
abbrev segments : List (Pipeline.Seg (pcfgs (F := F)) adm (pdats m ρ) () defs₀ noVariants noLevel level0) :=
  [ .host (hostSeg hostOps0 hostOps0_sub fresh_host0 (W0 m ρ)),
    .region (stage0 m ρ),
    .host (hostSeg hostOps1 hostOps1_sub fresh_host1 (W2 m ρ)),
    .region (stage1 m ρ),
    .host (hostSeg hostOps2 hostOps2_sub fresh_host2 (W4 m ρ)),
    .region (stage2 m ρ) ]
theorem main_segments (c : Dev nD) : main (F := F) c = Pipeline.Seg.run (segments m ρ) := (main_chain c).trans (by chain_rfl)

theorem all_scoped : ∀ sm : SemLoc sig, sm.isScoped .tc = true := by decide

set_option backward.isDefEq.respectTransparency.types false in
/-- From any memory with zero counters every execution ends with every buffer as the stages leave it and every
    counter zero. -/
theorem ends : θ_run defs (onTc (τ := τ) (main (F := F))) ⟨m, fun _ => 0, ρ⟩ (fun r =>
      (∀ c : Dev nD, ∀ b ∈ Pipeline.ucRefs τ sig, r.2.mem (((c : Thread nD τ)).1, b) = W6 m ρ c b) ∧ r.2.sem = fun _ => 0) :=
  Pipeline.θ_run_regions_kit_sems (pcfgs (F := F)) adm (pdats m ρ) () cellOf_inj emb₁ defs₀ noVariants noLevel level0 m ρ main (segments m ρ)
    (fun c Q => by rw [main_segments m ρ c])
    (by simp only [segments, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Beside c)) (Tₙ := AtEnd m ρ)
    (hch := ⟨fun _ => .rfl, fun _ => .rfl, fun _ => .rfl, fun _ => .rfl, fun _ => .rfl, fun _ => .rfl, fun _ => .rfl⟩)
    (hinit := by
      refine Pipeline.initEach noLevel level0 fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => ⟨h, funext fun g => hz g (.inr (all_scoped g.2))⟩)

/-- So every argument array ends as it was launched. -/
theorem arg_kept {M : (ℓ : Loc nD τ sig) → Buf (Elt F) ℓ} (h : ∀ c : Dev nD, ∀ b ∈ Pipeline.ucRefs τ sig, M (((c : Thread nD τ)).1, b) = W6 m ρ c b)
    (c : Dev nD) (a : Ref sig .tc) (ha : a ∈ args) (hu : ¬ (Proc.devRef .tc a : DevRef τ sig).isScoped) :
    M ((c.tc : Thread nD τ).loc a) = m ((c.tc : Thread nD τ).loc a) :=
  (h c _ (mem_uc a hu)).trans (W6_args m ρ c a ha)

end Cert.KernelIdeal.Steps

end
-- ==== Proof.Frames.lean ====
/- The frames of the three programs: each execution ends, the arguments stay, every counter returns to zero. -/
module

public import proofs.«01_k».proof.Defs
public import proofs.«01_k».proof.Proof.Kernel.Run
public import proofs.«01_k».proof.Proof.KernelIdeal.Run
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

/-- Every execution of `Kernel` from zero counters ends, with its arguments as launched and its counters zero. -/
theorem frame_Kernel : Cert.quiescent_Kernel := fun m ρ _ =>
  (θ_run Cert.Kernel.defs _ _).mono (fun r h => ⟨fun c => ⟨Cert.Kernel.Steps.arg_kept m ρ h.1 c Cert.Kernel.main_arg0 (by decide) (by decide),
      Cert.Kernel.Steps.arg_kept m ρ h.1 c Cert.Kernel.main_arg1 (by decide) (by decide),
      Cert.Kernel.Steps.arg_kept m ρ h.1 c Cert.Kernel.main_arg2 (by decide) (by decide),
      Cert.Kernel.Steps.arg_kept m ρ h.1 c Cert.Kernel.main_arg3 (by decide) (by decide),
      Cert.Kernel.Steps.arg_kept m ρ h.1 c Cert.Kernel.main_arg4 (by decide) (by decide),
      Cert.Kernel.Steps.arg_kept m ρ h.1 c Cert.Kernel.main_arg5 (by decide) (by decide),
      Cert.Kernel.Steps.arg_kept m ρ h.1 c Cert.Kernel.main_arg6 (by decide) (by decide),
      Cert.Kernel.Steps.arg_kept m ρ h.1 c Cert.Kernel.main_arg7 (by decide) (by decide),
      Cert.Kernel.Steps.arg_kept m ρ h.1 c Cert.Kernel.main_arg8 (by decide) (by decide),
      Cert.Kernel.Steps.arg_kept m ρ h.1 c Cert.Kernel.main_arg9 (by decide) (by decide),
      Cert.Kernel.Steps.arg_kept m ρ h.1 c Cert.Kernel.main_arg10 (by decide) (by decide),
      Cert.Kernel.Steps.arg_kept m ρ h.1 c Cert.Kernel.main_arg11 (by decide) (by decide)⟩, h.2⟩)
    (Cert.Kernel.Steps.ends (F := Bits) m ρ)

/-- Every execution of `KernelIdeal` from zero counters ends, with its arguments as launched and its counters zero. -/
theorem frame_KernelIdeal : Cert.quiescent_KernelIdeal := fun m ρ _ =>
  (θ_run Cert.KernelIdeal.defs _ _).mono (fun r h => ⟨fun c => ⟨Cert.KernelIdeal.Steps.arg_kept m ρ h.1 c Cert.KernelIdeal.main_arg0 (by decide) (by decide),
      Cert.KernelIdeal.Steps.arg_kept m ρ h.1 c Cert.KernelIdeal.main_arg1 (by decide) (by decide),
      Cert.KernelIdeal.Steps.arg_kept m ρ h.1 c Cert.KernelIdeal.main_arg2 (by decide) (by decide),
      Cert.KernelIdeal.Steps.arg_kept m ρ h.1 c Cert.KernelIdeal.main_arg3 (by decide) (by decide),
      Cert.KernelIdeal.Steps.arg_kept m ρ h.1 c Cert.KernelIdeal.main_arg4 (by decide) (by decide),
      Cert.KernelIdeal.Steps.arg_kept m ρ h.1 c Cert.KernelIdeal.main_arg5 (by decide) (by decide),
      Cert.KernelIdeal.Steps.arg_kept m ρ h.1 c Cert.KernelIdeal.main_arg6 (by decide) (by decide),
      Cert.KernelIdeal.Steps.arg_kept m ρ h.1 c Cert.KernelIdeal.main_arg7 (by decide) (by decide),
      Cert.KernelIdeal.Steps.arg_kept m ρ h.1 c Cert.KernelIdeal.main_arg8 (by decide) (by decide),
      Cert.KernelIdeal.Steps.arg_kept m ρ h.1 c Cert.KernelIdeal.main_arg9 (by decide) (by decide),
      Cert.KernelIdeal.Steps.arg_kept m ρ h.1 c Cert.KernelIdeal.main_arg10 (by decide) (by decide),
      Cert.KernelIdeal.Steps.arg_kept m ρ h.1 c Cert.KernelIdeal.main_arg11 (by decide) (by decide)⟩, h.2⟩)
    (Cert.KernelIdeal.Steps.ends (F := Ideal) m ρ)

/-- The reference has no semaphore, and its run keeps the arguments. -/
theorem frame_ReferenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.Math.Layers.lean ====
/- The scalar formulas of the kernel's three stages: the weights of one query point, the mixing layer at one point, and the
   normalisation of one channel. -/
module

public import Idealize.ShloMosaic.Lib.Pointwise

@[expose] public section

noncomputable section

namespace Cert.Math

open Idealize.ShloMosaic

/-- The smallest square distance a weight is taken at. -/
abbrev tiny : EReal := Ideal.ofBits .f32 0x2B8CBCCC#32
/-- What is added to a variance before its root is taken. -/
abbrev offset : EReal := Ideal.ofBits .f32 0x3727C5AC#32
/-- The number of points a channel is averaged over. -/
abbrev points : EReal := Ideal.ofBits .f32 0x47000000#32
abbrev two : EReal := Ideal.ofBits .f32 0x40000000#32

/-- The least value of a column. -/
def low (S : Fin 2048 → EReal) : EReal := Finset.univ.fold min ⊤ S
/-- The column with its least value taken out. -/
def hide (S : Fin 2048 → EReal) : Fin 2048 → EReal := fun a => if S a = low S then ⊤ else S a
/-- The weight at a partial square distance `s`, the query point's own square being `Q`. -/
def weight (Q s : EReal) : EReal := Ideal.rsqrt (max (s + Q) tiny)

/-- A point's square. -/
def square (q : Fin 3 → EReal) : EReal := ∑ d, q d * q d
/-- The known points' squares less twice their products with the query point. -/
def partial2 (q : Fin 3 → EReal) (k : Fin 3 → Fin 2048 → EReal) : Fin 2048 → EReal :=
  fun a => (∑ d, k d a * k d a) - two * ∑ d, k d a * q d

/-- The three nearest points' weights, zero elsewhere, -/
def weights (Q : EReal) (S : Fin 2048 → EReal) : Fin 2048 → EReal := fun a =>
  if hide (hide S) a = low (hide (hide S)) then weight Q (low (hide (hide S)))
  else if hide S a = low (hide S) then weight Q (low (hide S))
  else if S a = low S then weight Q (low S) else 0
/-- and their sum. -/
def total (Q : EReal) (S : Fin 2048 → EReal) : EReal :=
  weight Q (low S) + weight Q (low (hide S)) + weight Q (low (hide (hide S)))

/-- The features interpolated at one query point. -/
def blend (q : Fin 3 → EReal) (k : Fin 3 → Fin 2048 → EReal) (p : Fin 128 → Fin 2048 → EReal) : Fin 128 → EReal := fun c =>
  Ideal.div (∑ a, p c a * weights (square q) (partial2 q k) a) (total (square q) (partial2 q k))

/-- The first mixing layer at one query point and one channel. -/
def mix (q : Fin 3 → EReal) (k : Fin 3 → Fin 2048 → EReal) (f : Fin 64 → EReal) (p : Fin 128 → Fin 2048 → EReal)
    (wl : Fin 64 → EReal) (wr : Fin 128 → EReal) : EReal :=
  ∑ c, wl c * f c + ∑ c, wr c * blend q k p c

/-- A channel's value `y` normalised by the channel's sum `s` and sum of squares `q`, scaled by `g`, shifted by `β`, cut at zero. -/
def normed (s q g β y : EReal) : EReal :=
  max (y * (g * Ideal.rsqrt (Ideal.div q points - Ideal.div s points * Ideal.div s points + offset))
    + (β - Ideal.div s points * (g * Ideal.rsqrt (Ideal.div q points - Ideal.div s points * Ideal.div s points + offset)))) 0

end Cert.Math
-- ==== Proof.Value.TileA.lean ====
/- What the first stage stores for a tile, read one entry at a time. -/
module

public import proofs.«01_k».proof.Proof.KernelIdeal.StageA
public import proofs.«01_k».proof.Proof.Math.Layers

@[expose] public section

set_option maxRecDepth 16384

noncomputable section

namespace Cert.KernelIdeal.Value

open Idealize.ShloMosaic Idealize.ShloMosaic.TcCoe Idealize.SL.Sem
open Cert.KernelIdeal Cert.KernelIdeal.Gen Cert.KernelIdeal.Steps
open Cert.Math

theorem ofBits_inf : Ideal.ofBits .f32 0x7F800000#32 = ⊤ := by
  simp [Ideal.ofBits, Ideal.ieee]
theorem ofBits_at (b : BitVec 32) : (Scalar.ofBits .f32 b : Ideal .f32) = Ideal.ofBits .f32 b := (rfl)

theorem rsqrt_at {s : Shape} (x : FVec Ideal s .f32) (i : s.Idx) : rsqrt x i = Ideal.rsqrt (x i) := (rfl)

section
variable (x0 : FVec Ideal S1x3x512 .f32) (x1 : FVec Ideal S1x3x2048 .f32)

/-- The query point at column `j` of the tile. -/
abbrev query (j : Fin 512) : Fin 3 → EReal := fun d => x0 (ix3 0 d j)
/-- The known points. -/
abbrev known : Fin 3 → Fin 2048 → EReal := fun d a => x1 (ix3 0 d a)
/-- The partial square distances of column `j`. -/
abbrev col (j : Fin 512) : Fin 2048 → EReal := partial2 (query x0 j) (known x1)

theorem square_at (j : Fin 512) : k0_pay4 (F := Ideal) x0 (ix2 0 j) = square (query x0 j) := by
  pointwise [k0_pay4, k0_pay3, square]
theorem partial_at (a : Fin 2048) (j : Fin 512) : k0_pay5 (F := Ideal) x0 x1 (ix2 a j) = col x0 x1 j a := by
  pointwise [k0_pay5, k0_pay3, partial2]
theorem low_of (A : FVec Ideal S2048x512 .f32) (j : Fin 512) :
    shapeCast S1x512 (multiReduction .minimumf [0] S512 A 0x7F800000#32 reduces_S2048x512_S512 (.inl rfl) rfl) shapeCasts_S512_S1x512 (ix2 0 j)
      = low fun a => A (ix2 a j) := by
  pointwise [low, ofBits_inf]
theorem low1_at (j : Fin 512) : k0_pay6 (F := Ideal) x0 x1 (ix2 0 j) = low (col x0 x1 j) := by
  unfold k0_pay6
  rw [low_of]
  exact congrArg low (funext fun a => partial_at x0 x1 a j)
theorem weight_of (A B : FVec Ideal S1x512 .f32) (j : Fin 512) :
    rsqrt (maximumf (addf A B) (broadcast S1x512 (Scalar.ofBits .f32 0x2B8CBCCC#32))) (ix2 0 j) = weight (B (ix2 0 j)) (A (ix2 0 j)) := by
  unfold weight
  rw [rsqrt_at, ValueIdx.maximumf_apply, ValueIdx.addf_apply, ValueIdx.broadcast_apply, ofBits_at]
theorem weight1_at (j : Fin 512) : k0_pay7 (F := Ideal) x0 x1 (ix2 0 j) = weight (square (query x0 j)) (low (col x0 x1 j)) := by
  unfold k0_pay7
  rw [weight_of, low1_at, square_at]
theorem weights1_at (a : Fin 2048) (j : Fin 512) : k0_pay9 (F := Ideal) x0 x1 (ix2 a j)
    = if col x0 x1 j a = low (col x0 x1 j) then weight (square (query x0 j)) (low (col x0 x1 j)) else 0 := by
  pointwise [k0_pay9, k0_pay8, partial_at x0 x1, low1_at x0 x1, weight1_at x0 x1]
theorem hide1_at (a : Fin 2048) (j : Fin 512) : k0_pay10 (F := Ideal) x0 x1 (ix2 a j) = hide (col x0 x1 j) a := by
  pointwise [k0_pay10, k0_pay8, ofBits_inf, partial_at x0 x1, low1_at x0 x1, hide]
theorem total1_at (j : Fin 512) : k0_pay11 (F := Ideal) x0 x1 (ix2 0 j) = weight (square (query x0 j)) (low (col x0 x1 j)) := by
  unfold k0_pay11
  rw [ValueIdx.addf_apply, ValueIdx.broadcast_apply, ofBits_at, Ideal.ofBits_zero_f32, weight1_at]
  exact zero_add _
theorem low2_at (j : Fin 512) : k0_pay12 (F := Ideal) x0 x1 (ix2 0 j) = low (hide (col x0 x1 j)) := by
  unfold k0_pay12
  rw [low_of]
  exact congrArg low (funext fun a => hide1_at x0 x1 a j)
theorem weight2_at (j : Fin 512) : k0_pay13 (F := Ideal) x0 x1 (ix2 0 j) = weight (square (query x0 j)) (low (hide (col x0 x1 j))) := by
  unfold k0_pay13
  rw [weight_of, low2_at, square_at]
theorem spread2_at (a : Fin 2048) (j : Fin 512) : k0_pay15 (F := Ideal) x0 x1 (ix2 a j) = weight (square (query x0 j)) (low (hide (col x0 x1 j))) := by
  pointwise [k0_pay15, weight2_at x0 x1]
theorem mask2_at (a : Fin 2048) (j : Fin 512) {α : Type} (u v : α) :
    Scalar.select (k0_pay14 (F := Ideal) x0 x1 (ix2 a j)) u v = if hide (col x0 x1 j) a = low (hide (col x0 x1 j)) then u else v := by
  pointwise [k0_pay14, hide1_at x0 x1, low2_at x0 x1]
end

/-- The mixing layer over the round's arrays, before they are read. -/
theorem mixed_of (v7 : FVec Ideal S1x512 .f32) (v27 v29 : FVec Ideal S2048x512 .f32) (v30 v36 : FVec Ideal S1x512 .f32)
    (v38 : IVec S2048x512 1) (v40 : FVec Ideal S2048x512 .f32) (v57 : FVec Ideal S1x128x2048 .f32) (v62 : FVec Ideal S1x64x512 .f32)
    (v64 : FVec Ideal S128x64 .f32) (v66 : FVec Ideal S128x128 .f32) (o : Fin 128) (j : Fin 512) (S : Fin 2048 → EReal)
    (hS : ∀ a, Scalar.select (v38 (ix2 a j)) (⊤ : EReal) (v29 (ix2 a j)) = S a) :
    k0_pay16 (F := Ideal) v7 v27 v29 v30 v36 v38 v40 v57 v62 v64 v66 (ix2 o j)
      = ∑ c, v64 (ix2 o c) * v62 (ix3 0 c j) + ∑ c, v66 (ix2 o c) * Ideal.div
          (∑ a, v57 (ix3 0 c a) * (if S a = low S then weight (v7 (ix2 0 j)) (low S)
            else Scalar.select (v38 (ix2 a j)) (v40 (ix2 a j)) (v27 (ix2 a j))))
          (v30 (ix2 0 j) + v36 (ix2 0 j) + weight (v7 (ix2 0 j)) (low S)) := by
  unfold k0_pay16
  generalize hM : select v38 (broadcast S2048x512 (Scalar.ofBits .f32 0x7F800000#32)) v29 = M
  have hm : (fun a => M (ix2 a j)) = S := funext fun a => by
    rw [← hM, ← hS a, ← ofBits_inf]; rfl
  generalize hX : shapeCast S1x512 (multiReduction .minimumf [0] S512 M 0x7F800000#32 reduces_S2048x512_S512 (.inl rfl) rfl)
    shapeCasts_S512_S1x512 = X
  have hx : X (ix2 0 j) = low S := by rw [← hX, low_of, hm]
  generalize hw : rsqrt (maximumf (addf X v7) (broadcast S1x512 (Scalar.ofBits .f32 0x2B8CBCCC#32))) = w
  have hw' : w (ix2 0 j) = weight (v7 (ix2 0 j)) (low S) := by rw [← hw, weight_of, hx]
  pointwise []
  simp only [hx, hw', ← hm]

section
variable (x0 : FVec Ideal S1x3x512 .f32) (x1 : FVec Ideal S1x3x2048 .f32) (x2 : FVec Ideal S1x64x512 .f32)
  (x3 : FVec Ideal S1x128x2048 .f32) (x4 : FVec Ideal S128x192 .f32)

theorem left_at (o : Fin 128) (c : Fin 64) : wLeft (F := Ideal) x4 (ix2 o c) = x4 (ix2 o ⟨c.val, by omega⟩) := by
  pointwise [wLeft]
theorem right_at (o : Fin 128) (c : Fin 128) : wRight (F := Ideal) x4 (ix2 o c) = x4 (ix2 o ⟨64 + c.val, by omega⟩) := by
  pointwise [wRight]

/-- The tile's value at channel `o`, column `j`. -/
abbrev mixAt (o : Fin 128) (j : Fin 512) : EReal :=
  mix (query x0 j) (known x1) (fun c => x2 (ix3 0 c j)) (fun c a => x3 (ix3 0 c a)) (fun c => x4 (ix2 o ⟨c.val, by omega⟩))
    (fun c => x4 (ix2 o ⟨64 + c.val, by omega⟩))

theorem mixed_at (o : Fin 128) (j : Fin 512) :
    k0_pay16 (F := Ideal) (k0_pay4 x0) (k0_pay9 x0 x1) (k0_pay10 x0 x1) (k0_pay11 x0 x1) (k0_pay13 x0 x1) (k0_pay14 (F := Ideal) x0 x1)
      (k0_pay15 x0 x1) x3 x2 (wLeft x4) (wRight x4) (ix2 o j) = mixAt x0 x1 x2 x3 x4 o j := by
  rw [mixed_of _ _ _ _ _ _ _ _ _ _ _ o j (hide (hide (col x0 x1 j))) fun a => by rw [mask2_at, hide1_at]; rfl]
  unfold mixAt mix blend weights total
  simp only [left_at, right_at, square_at, total1_at, weight2_at, mask2_at, spread2_at, weights1_at]

theorem tile0_at (o : Fin 128) (j : Fin 512) : tile0 (F := Ideal) x0 x1 x2 x3 x4 (ix3 0 o j) = mixAt x0 x1 x2 x3 x4 o j := by
  have h := mixed_at x0 x1 x2 x3 x4 o j
  unfold tile0 k0_pay17
  generalize k0_pay16 (F := Ideal) (k0_pay4 x0) (k0_pay9 x0 x1) (k0_pay10 x0 x1) (k0_pay11 x0 x1) (k0_pay13 x0 x1) (k0_pay14 (F := Ideal) x0 x1)
      (k0_pay15 x0 x1) x3 x2 (wLeft x4) (wRight x4) = Y at h ⊢
  rw [← h]
  pointwise []
theorem sum0_at (o : Fin 128) : sum0 (F := Ideal) x0 x1 x2 x3 x4 (ix2 0 o) = ∑ j, mixAt x0 x1 x2 x3 x4 o j := by
  have h := mixed_at x0 x1 x2 x3 x4 o
  unfold sum0 k0_pay18
  generalize k0_pay16 (F := Ideal) (k0_pay4 x0) (k0_pay9 x0 x1) (k0_pay10 x0 x1) (k0_pay11 x0 x1) (k0_pay13 x0 x1) (k0_pay14 (F := Ideal) x0 x1)
      (k0_pay15 x0 x1) x3 x2 (wLeft x4) (wRight x4) = Y at h ⊢
  simp only [← h]
  pointwise []
theorem sq0_at (o : Fin 128) : sq0 (F := Ideal) x0 x1 x2 x3 x4 (ix2 0 o) = ∑ j, mixAt x0 x1 x2 x3 x4 o j * mixAt x0 x1 x2 x3 x4 o j := by
  have h := mixed_at x0 x1 x2 x3 x4 o
  unfold sq0 k0_pay19
  generalize k0_pay16 (F := Ideal) (k0_pay4 x0) (k0_pay9 x0 x1) (k0_pay10 x0 x1) (k0_pay11 x0 x1) (k0_pay13 x0 x1) (k0_pay14 (F := Ideal) x0 x1)
      (k0_pay15 x0 x1) x3 x2 (wLeft x4) (wRight x4) = Y at h ⊢
  simp only [← h]
  pointwise []
end

theorem acc1_at (x y : FVec Ideal S1x128 .f32) (o : Fin 128) : k0_pay1 (F := Ideal) x y (ix2 0 o) = y (ix2 0 o) + x (ix2 0 o) := by
  pointwise [k0_pay1]
theorem acc2_at (x y : FVec Ideal S1x128 .f32) (o : Fin 128) : k0_pay2 (F := Ideal) x y (ix2 0 o) = y (ix2 0 o) + x (ix2 0 o) := by
  pointwise [k0_pay2]

end Cert.KernelIdeal.Value
-- ==== Proof.Value.ArraysA.lean ====
/- The arrays the first stage leaves. -/
module

public import proofs.«01_k».proof.Proof.Value.TileA
public import Idealize.ShloMosaic.Lib.Pipeline.ValueKit

@[expose] public section

set_option maxRecDepth 16384

noncomputable section

namespace Cert.KernelIdeal.Value

open Idealize.ShloMosaic Idealize.ShloMosaic.TcCoe Idealize.SL.Sem
open Cert.KernelIdeal Cert.KernelIdeal.Gen Cert.KernelIdeal.Steps
open Cert.Math

variable (V : (c : Dev nD) → (b : Ref sig .tc) → Buf (Elt Ideal) ((c : Thread nD τ).loc b)) (c : Dev nD)

/-- The first mixing layer at batch `b`, channel `o`, point `n`. -/
def layer0 (T1 : FVec Ideal S4x3x8192 .f32) (T2 : FVec Ideal S4x3x2048 .f32) (P1 : FVec Ideal S4x64x8192 .f32)
    (P2 : FVec Ideal S4x128x2048 .f32) (W : FVec Ideal S128x192 .f32) (b : Fin 4) (o : Fin 128) (n : Fin 8192) : EReal :=
  mix (fun d => T1 (ix3 b d n)) (fun d a => T2 (ix3 b d a)) (fun k => P1 (ix3 b k n)) (fun k a => P2 (ix3 b k a))
    (fun k => W (ix2 o ⟨k.val, by omega⟩)) (fun k => W (ix2 o ⟨64 + k.val, by omega⟩))
/-- The same over the buffers the stage is entered with. -/
abbrev entered0 : Fin 4 → Fin 128 → Fin 8192 → EReal :=
  layer0 (V c main_v0) (V c main_v1) (V c main_arg2) (V c main_arg3) (V c main_arg4)

/-- Which block every window is at, at every point. -/
theorem idx0 : ∀ t : Fin cfg0.N, win0_0.index t = ![t.val / 16, 0, t.val % 16] ∧ win0_1.index t = ![t.val / 16, 0, 0]
    ∧ win0_2.index t = ![t.val / 16, 0, t.val % 16] ∧ win0_3.index t = ![t.val / 16, 0, 0] ∧ win0_4.index t = ![0, 0]
    ∧ win0_5.index t = ![t.val / 16, 0, t.val % 16] ∧ win0_6.index t = ![0, 0] ∧ win0_7.index t = ![0, 0] :=
  (by decide +kernel : ∀ t : Fin grid0.N, _)
theorem steps0 : cfg0.N = 64 := by decide +kernel

theorem point0 (t : Fin cfg0.N) (o : Fin 128) (j : Fin 512) (b : Fin 4) (n : Fin 8192) (hb : b.val = t.val / 16)
    (hn : n.val = t.val % 16 * 512 + j.val) :
    mixAt (iblk0 V c 0 t) (iblk0 V c 1 t) (iblk0 V c 2 t) (iblk0 V c 3 t) (iblk0 V c 4 t) o j = entered0 V c b o n := by
  have h0 : ∀ d : Fin 3, (iblk0 V c 0 t : FVec Ideal S1x3x512 .f32) (ix3 0 d j) = (V c main_v0 : FVec Ideal S4x3x8192 .f32) (ix3 b d n) := fun d => by
    blk_ext [iblk0, idx0 t]
  have h1 : ∀ (d : Fin 3) (a : Fin 2048), (iblk0 V c 1 t : FVec Ideal S1x3x2048 .f32) (ix3 0 d a) = (V c main_v1 : FVec Ideal S4x3x2048 .f32) (ix3 b d a) := fun d a => by
    blk_ext [iblk0, idx0 t]
  have h2 : ∀ k : Fin 64, (iblk0 V c 2 t : FVec Ideal S1x64x512 .f32) (ix3 0 k j) = (V c main_arg2 : FVec Ideal S4x64x8192 .f32) (ix3 b k n) := fun d => by
    blk_ext [iblk0, idx0 t]
  have h3 : ∀ (k : Fin 128) (a : Fin 2048), (iblk0 V c 3 t : FVec Ideal S1x128x2048 .f32) (ix3 0 k a) = (V c main_arg3 : FVec Ideal S4x128x2048 .f32) (ix3 b k a) := fun d a => by
    blk_ext [iblk0, idx0 t]
  have h4 : ∀ k : Fin 192, (iblk0 V c 4 t : FVec Ideal S128x192 .f32) (ix2 o k) = (V c main_arg4 : FVec Ideal S128x192 .f32) (ix2 o k) := fun d => by
    blk_ext [iblk0, idx0 t]
  unfold mixAt query known entered0 layer0
  simp only [h0, h1, h2, h3, h4]

theorem tile0_read (t : Fin cfg0.N) (y : S1x128x512.Idx) (b : Fin 4) (o : Fin 128) (n : Fin 8192) (hb : b.val = t.val / 16)
    (ho : o.val = (y 1).val) (hn : n.val = t.val % 16 * 512 + (y 2).val) :
    tile0 (iblk0 V c 0 t) (iblk0 V c 1 t) (iblk0 V c 2 t) (iblk0 V c 3 t) (iblk0 V c 4 t) y = entered0 V c b o n := by
  idx_vars y
  obtain rfl : y0 = 0 := Subsingleton.elim _ _
  obtain rfl : o = y1 := Fin.ext ho
  exact (tile0_at _ _ _ _ _ o y2).trans (point0 V c t o y2 b n hb hn)

/-- The mixed features the stage leaves. -/
theorem mixed_final : (dat0 V c).arrAt 5 cfg0.N = (fun i => entered0 V c (i 0) (i 1) (i 2) : FVec Ideal S4x128x8192 .f32) := by
  refine (dat0 V c).arrAt_eq_of_covers 5 _ (by decide +kernel) fun t _ y => ?_
  blk_simp
  rw [after0_5]
  refine tile0_read V c t y _ _ _ ?_ ?_ ?_ <;> blk_simp [idx0 t] <;> try omega

/-- The batch and the column a lane of a point's tile lies at. -/
abbrev batch0 (s : ℕ) (h : s < 64) : Fin 4 := ⟨s / 16, by omega⟩
abbrev lane0 (s : ℕ) (j : Fin 512) : Fin 8192 := ⟨s % 16 * 512 + j.val, by omega⟩

theorem sum0_read (t : Fin cfg0.N) (h : t.val < 64) (o : Fin 128) :
    sum0 (iblk0 V c 0 t) (iblk0 V c 1 t) (iblk0 V c 2 t) (iblk0 V c 3 t) (iblk0 V c 4 t) (ix2 0 o)
      = ∑ j, entered0 V c (batch0 t.val h) o (lane0 t.val j) :=
  (sum0_at _ _ _ _ _ o).trans (Finset.sum_congr rfl fun j _ => point0 V c t o j _ _ rfl rfl)
theorem sq0_read (t : Fin cfg0.N) (h : t.val < 64) (o : Fin 128) :
    sq0 (iblk0 V c 0 t) (iblk0 V c 1 t) (iblk0 V c 2 t) (iblk0 V c 3 t) (iblk0 V c 4 t) (ix2 0 o)
      = ∑ j, entered0 V c (batch0 t.val h) o (lane0 t.val j) * entered0 V c (batch0 t.val h) o (lane0 t.val j) :=
  (sq0_at _ _ _ _ _ o).trans (Finset.sum_congr rfl fun j _ => by rw [point0 V c t o j (batch0 t.val h) (lane0 t.val j) rfl rfl])

/-- The running rows after a point are the sums over the points so far. -/
theorem rows0_at (o : Fin 128) : ∀ (p : ℕ) (hp : p < cfg0.N) (h : p < 64),
    (rows0 V c p hp).1 (ix2 0 o) = ∑ s : Fin (p + 1), ∑ j, entered0 V c (batch0 s.val (by omega)) o (lane0 s.val j)
    ∧ (rows0 V c p hp).2 (ix2 0 o) = ∑ s : Fin (p + 1), ∑ j, entered0 V c (batch0 s.val (by omega)) o (lane0 s.val j)
        * entered0 V c (batch0 s.val (by omega)) o (lane0 s.val j)
  | 0, hp, h => by
    rw [rows0, Fin.sum_univ_one, Fin.sum_univ_one]
    exact ⟨sum0_read V c ⟨0, hp⟩ h o, sq0_read V c ⟨0, hp⟩ h o⟩
  | p + 1, hp, h => by
    have ih := rows0_at o p (Nat.lt_of_succ_lt hp) (by omega)
    rw [rows0]
    exact ⟨((acc1_at _ _ o).trans (congrArg₂ (· + ·) ih.1 (sum0_read V c ⟨p + 1, hp⟩ h o))).trans (Fin.sum_univ_castSucc fun s : Fin (p + 2) =>
        ∑ j, entered0 V c (batch0 s.val (by omega)) o (lane0 s.val j)).symm,
      ((acc2_at _ _ o).trans (congrArg₂ (· + ·) ih.2 (sq0_read V c ⟨p + 1, hp⟩ h o))).trans (Fin.sum_univ_castSucc fun s : Fin (p + 2) =>
        ∑ j, entered0 V c (batch0 s.val (by omega)) o (lane0 s.val j) * entered0 V c (batch0 s.val (by omega)) o (lane0 s.val j)).symm⟩

/-- The tiles of a grid make up the whole array. -/
theorem retile0 (f : Fin 4 → Fin 8192 → EReal) :
    ∑ s : Fin 64, ∑ j : Fin 512, f (batch0 s.val s.isLt) (lane0 s.val j) = ∑ b, ∑ n, f b n := by
  refine Fin.sum_divmod_congr (A := 4) (S := 16) (f := fun b i => ∑ j : Fin 512, f b ⟨i.val * 512 + j.val, by omega⟩) (fun s _ _ => rfl) |>.trans ?_
  refine Finset.sum_congr rfl fun b _ => ?_
  exact Fin.sum_mul_add_congr fun i j h => rfl

theorem row0_read (t : Fin cfg0.N) (h : t.val = 63) (y : S1x128.Idx) (o : Fin 128) (ho : o.val = (y 1).val) :
    (rows0 V c t.val t.isLt).1 y = ∑ b, ∑ n, entered0 V c b o n
    ∧ (rows0 V c t.val t.isLt).2 y = ∑ b, ∑ n, entered0 V c b o n * entered0 V c b o n := by
  idx_vars y
  obtain rfl : y0 = 0 := Subsingleton.elim _ _
  obtain rfl : o = y1 := Fin.ext ho
  obtain ⟨p, hp⟩ := t
  obtain rfl : p = 63 := h
  have h' := rows0_at V c o 63 hp (by omega)
  exact ⟨h'.1.trans (retile0 fun b n => entered0 V c b o n), h'.2.trans (retile0 fun b n => entered0 V c b o n * entered0 V c b o n)⟩

theorem last0 (t : Fin cfg0.N) (h : t.val % 64 = 63) : t.val = 63 := by have := t.isLt; have := steps0; omega

/-- The sums and the sums of squares it leaves. -/
theorem sums_final : (dat0 V c).arrAt 6 cfg0.N = (fun i => ∑ b, ∑ n, entered0 V c b (i 1) n : FVec Ideal S1x128 .f32) := by
  refine (dat0 V c).arrAt_eq_of_covers 6 _ (by decide +kernel) fun t hf y => ?_
  blk_simp
  rw [after0_6]
  refine (row0_read V c t (last0 t ((flush0_6 t).mp hf)) y _ ?_).1
  blk_simp [idx0 t]
theorem squares_final : (dat0 V c).arrAt 7 cfg0.N
    = (fun i => ∑ b, ∑ n, entered0 V c b (i 1) n * entered0 V c b (i 1) n : FVec Ideal S1x128 .f32) := by
  refine (dat0 V c).arrAt_eq_of_covers 7 _ (by decide +kernel) fun t hf y => ?_
  blk_simp
  rw [after0_7]
  refine (row0_read V c t (last0 t ((flush0_7 t).mp hf)) y _ ?_).2
  blk_simp [idx0 t]

end Cert.KernelIdeal.Value
-- ==== Proof.Value.TileB.lean ====
/- What the second and third stages store for a tile, read one entry at a time. -/
module

public import proofs.«01_k».proof.Proof.KernelIdeal.StageB
public import proofs.«01_k».proof.Proof.KernelIdeal.StageC
public import proofs.«01_k».proof.Proof.Math.Layers

@[expose] public section

set_option maxRecDepth 16384

noncomputable section

namespace Cert.KernelIdeal.Value

open Idealize.ShloMosaic Idealize.ShloMosaic.TcCoe Idealize.SL.Sem
open Cert.KernelIdeal Cert.KernelIdeal.Gen Cert.KernelIdeal.Steps
open Cert.Math

theorem floatOps_ofBits (b : BitVec 32) : (FloatOps.ofBits .f32 b : Ideal .f32) = Ideal.ofBits .f32 b := (rfl)

section
variable (y : FVec Ideal S1x128x2048 .f32) (s q g β : FVec Ideal S1x128 .f32)

/-- The normalised tile at channel `c`, column `j`. -/
abbrev normAt (c : Fin 128) (j : Fin 2048) : EReal := normed (s (ix2 0 c)) (q (ix2 0 c)) (g (ix2 0 c)) (β (ix2 0 c)) (y (ix3 0 c j))

theorem tile2_at (o : Fin 128) (j : Fin 2048) : tile2 (F := Ideal) y s q g β (ix3 0 o j) = normAt y s q g β o j := by
  unfold tile2 k2_pay1 normAt normed
  simp only [floatOps_ofBits]
  unfold offset points
  generalize Ideal.ofBits .f32 0x47000000#32 = c
  generalize Ideal.ofBits .f32 0x3727C5AC#32 = e
  pointwise []

variable (w : FVec Ideal S128x128 .f32)
/-- The second mixing layer at channel `o`, column `j`. -/
abbrev layerAt (o : Fin 128) (j : Fin 2048) : EReal := ∑ c, w (ix2 o c) * normAt y s q g β c j

theorem layer_at (o : Fin 128) (j : Fin 2048) : k1_pay5 (F := Ideal) s q g β y w (ix2 o j) = layerAt y s q g β w o j := by
  unfold k1_pay5 layerAt normAt normed
  simp only [floatOps_ofBits]
  unfold offset points
  generalize Ideal.ofBits .f32 0x47000000#32 = c
  generalize Ideal.ofBits .f32 0x3727C5AC#32 = e
  pointwise []

theorem mat1_at (o : Fin 128) (j : Fin 2048) : mat1 (F := Ideal) y s q g β w (ix2 o j) = layerAt y s q g β w o j := by
  unfold mat1; exact layer_at y s q g β w o j
theorem tile1_at (o : Fin 128) (j : Fin 2048) : tile1 (F := Ideal) y s q g β w (ix3 0 o j) = layerAt y s q g β w o j := by
  have h := layer_at y s q g β w o j
  unfold tile1 k1_pay6
  generalize k1_pay5 (F := Ideal) s q g β y w = Y at h ⊢
  rw [← h]
  pointwise []
end

theorem rowSum_at (Y : FVec Ideal S128x2048 .f32) (o : Fin 128) : k1_pay1 (F := Ideal) Y (ix2 0 o) = ∑ j, Y (ix2 o j) := by
  pointwise [k1_pay1]
theorem rowSq_at (Y : FVec Ideal S128x2048 .f32) (o : Fin 128) : k1_pay2 (F := Ideal) Y (ix2 0 o) = ∑ j, Y (ix2 o j) * Y (ix2 o j) := by
  pointwise [k1_pay2]
theorem accSum_at (Y : FVec Ideal S128x2048 .f32) (p : FVec Ideal S1x128 .f32) (o : Fin 128) :
    k1_pay3 (F := Ideal) Y p (ix2 0 o) = p (ix2 0 o) + ∑ j, Y (ix2 o j) := by
  have h := rowSum_at Y o
  unfold k1_pay3
  generalize k1_pay1 (F := Ideal) Y = R at h ⊢
  rw [← h]
  pointwise []
theorem accSq_at (Y : FVec Ideal S128x2048 .f32) (p : FVec Ideal S1x128 .f32) (o : Fin 128) :
    k1_pay4 (F := Ideal) Y p (ix2 0 o) = p (ix2 0 o) + ∑ j, Y (ix2 o j) * Y (ix2 o j) := by
  have h := rowSq_at Y o
  unfold k1_pay4
  generalize k1_pay2 (F := Ideal) Y = R at h ⊢
  rw [← h]
  pointwise []

end Cert.KernelIdeal.Value
-- ==== Proof.Value.ArraysB.lean ====
/- The arrays the second and the third stage leave. -/
module

public import proofs.«01_k».proof.Proof.Value.TileB
public import Idealize.ShloMosaic.Lib.Pipeline.ValueKit

@[expose] public section

set_option maxRecDepth 16384

noncomputable section

namespace Cert.KernelIdeal.Value

open Idealize.ShloMosaic Idealize.ShloMosaic.TcCoe Idealize.SL.Sem
open Cert.KernelIdeal Cert.KernelIdeal.Gen Cert.KernelIdeal.Steps
open Cert.Math

variable (V : (c : Dev nD) → (b : Ref sig .tc) → Buf (Elt Ideal) ((c : Thread nD τ).loc b)) (c : Dev nD)

/-- A normalised layer at batch `b`, channel `k`, point `n`. -/
def normal (Y : FVec Ideal S4x128x8192 .f32) (s q g β : FVec Ideal S1x128 .f32) (b : Fin 4) (k : Fin 128) (n : Fin 8192) : EReal :=
  normed (s (ix2 0 k)) (q (ix2 0 k)) (g (ix2 0 k)) (β (ix2 0 k)) (Y (ix3 b k n))
/-- The second mixing layer. -/
def layer1 (Y : FVec Ideal S4x128x8192 .f32) (s q g β : FVec Ideal S1x128 .f32) (W : FVec Ideal S128x128 .f32)
    (b : Fin 4) (o : Fin 128) (n : Fin 8192) : EReal :=
  ∑ k, W (ix2 o k) * normal Y s q g β b k n
/-- The same over the buffers the stage is entered with. -/
abbrev entered1 : Fin 4 → Fin 128 → Fin 8192 → EReal :=
  layer1 (V c main_v2_0) (V c main_v2_1) (V c main_v2_2) (V c main_v3) (V c main_v4) (V c main_arg8)
/-- The result over the buffers the last stage is entered with. -/
abbrev entered2 : Fin 4 → Fin 128 → Fin 8192 → EReal :=
  normal (V c main_v5_0) (V c main_v5_1) (V c main_v5_2) (V c main_v6) (V c main_v7)

/-- Which block every window is at, at every point. -/
theorem idx1 : ∀ t : Fin cfg1.N, win1_0.index t = ![t.val / 4, 0, t.val % 4] ∧ win1_1.index t = ![0, 0] ∧ win1_2.index t = ![0, 0]
    ∧ win1_3.index t = ![0, 0] ∧ win1_4.index t = ![0, 0] ∧ win1_5.index t = ![0, 0]
    ∧ win1_6.index t = ![t.val / 4, 0, t.val % 4] ∧ win1_7.index t = ![0, 0] ∧ win1_8.index t = ![0, 0] :=
  (by decide +kernel : ∀ t : Fin grid1.N, _)
theorem idx2 : ∀ t : Fin cfg2.N, win2_0.index t = ![t.val / 4, 0, t.val % 4] ∧ win2_1.index t = ![0, 0] ∧ win2_2.index t = ![0, 0]
    ∧ win2_3.index t = ![0, 0] ∧ win2_4.index t = ![0, 0] ∧ win2_5.index t = ![t.val / 4, 0, t.val % 4] :=
  (by decide +kernel : ∀ t : Fin grid2.N, _)
theorem steps1 : cfg1.N = 16 := by decide +kernel

theorem point1 (t : Fin cfg1.N) (o : Fin 128) (j : Fin 2048) (b : Fin 4) (n : Fin 8192) (hb : b.val = t.val / 4)
    (hn : n.val = t.val % 4 * 2048 + j.val) :
    layerAt (iblk1 V c 0 t) (iblk1 V c 1 t) (iblk1 V c 2 t) (iblk1 V c 3 t) (iblk1 V c 4 t) (iblk1 V c 5 t) o j = entered1 V c b o n := by
  have h0 : ∀ k : Fin 128, (iblk1 V c 0 t : FVec Ideal S1x128x2048 .f32) (ix3 0 k j) = (V c main_v2_0 : FVec Ideal S4x128x8192 .f32) (ix3 b k n) := fun k => by
    blk_ext [iblk1, idx1 t]
  have h1 : ∀ k : Fin 128, (iblk1 V c 1 t : FVec Ideal S1x128 .f32) (ix2 0 k) = (V c main_v2_1 : FVec Ideal S1x128 .f32) (ix2 0 k) := fun k => by
    blk_ext [iblk1, idx1 t]
  have h2 : ∀ k : Fin 128, (iblk1 V c 2 t : FVec Ideal S1x128 .f32) (ix2 0 k) = (V c main_v2_2 : FVec Ideal S1x128 .f32) (ix2 0 k) := fun k => by
    blk_ext [iblk1, idx1 t]
  have h3 : ∀ k : Fin 128, (iblk1 V c 3 t : FVec Ideal S1x128 .f32) (ix2 0 k) = (V c main_v3 : FVec Ideal S1x128 .f32) (ix2 0 k) := fun k => by
    blk_ext [iblk1, idx1 t]
  have h4 : ∀ k : Fin 128, (iblk1 V c 4 t : FVec Ideal S1x128 .f32) (ix2 0 k) = (V c main_v4 : FVec Ideal S1x128 .f32) (ix2 0 k) := fun k => by
    blk_ext [iblk1, idx1 t]
  have h5 : ∀ k : Fin 128, (iblk1 V c 5 t : FVec Ideal S128x128 .f32) (ix2 o k) = (V c main_arg8 : FVec Ideal S128x128 .f32) (ix2 o k) := fun k => by
    blk_ext [iblk1, idx1 t]
  unfold layerAt normAt entered1 layer1 normal
  simp only [h0, h1, h2, h3, h4, h5]

theorem point2 (t : Fin cfg2.N) (o : Fin 128) (j : Fin 2048) (b : Fin 4) (n : Fin 8192) (hb : b.val = t.val / 4)
    (hn : n.val = t.val % 4 * 2048 + j.val) :
    normAt (iblk2 V c 0 t) (iblk2 V c 1 t) (iblk2 V c 2 t) (iblk2 V c 3 t) (iblk2 V c 4 t) o j = entered2 V c b o n := by
  have h0 : (iblk2 V c 0 t : FVec Ideal S1x128x2048 .f32) (ix3 0 o j) = (V c main_v5_0 : FVec Ideal S4x128x8192 .f32) (ix3 b o n) := by
    blk_ext [iblk2, idx2 t]
  have h1 : (iblk2 V c 1 t : FVec Ideal S1x128 .f32) (ix2 0 o) = (V c main_v5_1 : FVec Ideal S1x128 .f32) (ix2 0 o) := by
    blk_ext [iblk2, idx2 t]
  have h2 : (iblk2 V c 2 t : FVec Ideal S1x128 .f32) (ix2 0 o) = (V c main_v5_2 : FVec Ideal S1x128 .f32) (ix2 0 o) := by
    blk_ext [iblk2, idx2 t]
  have h3 : (iblk2 V c 3 t : FVec Ideal S1x128 .f32) (ix2 0 o) = (V c main_v6 : FVec Ideal S1x128 .f32) (ix2 0 o) := by
    blk_ext [iblk2, idx2 t]
  have h4 : (iblk2 V c 4 t : FVec Ideal S1x128 .f32) (ix2 0 o) = (V c main_v7 : FVec Ideal S1x128 .f32) (ix2 0 o) := by
    blk_ext [iblk2, idx2 t]
  unfold normAt entered2 normal
  simp only [h0, h1, h2, h3, h4]

theorem tile1_read (t : Fin cfg1.N) (y : S1x128x2048.Idx) (b : Fin 4) (o : Fin 128) (n : Fin 8192) (hb : b.val = t.val / 4)
    (ho : o.val = (y 1).val) (hn : n.val = t.val % 4 * 2048 + (y 2).val) :
    tile1 (iblk1 V c 0 t) (iblk1 V c 1 t) (iblk1 V c 2 t) (iblk1 V c 3 t) (iblk1 V c 4 t) (iblk1 V c 5 t) y = entered1 V c b o n := by
  idx_vars y
  obtain rfl : y0 = 0 := Subsingleton.elim _ _
  obtain rfl : o = y1 := Fin.ext ho
  exact (tile1_at _ _ _ _ _ _ o y2).trans (point1 V c t o y2 b n hb hn)
theorem tile2_read (t : Fin cfg2.N) (y : S1x128x2048.Idx) (b : Fin 4) (o : Fin 128) (n : Fin 8192) (hb : b.val = t.val / 4)
    (ho : o.val = (y 1).val) (hn : n.val = t.val % 4 * 2048 + (y 2).val) :
    tile2 (iblk2 V c 0 t) (iblk2 V c 1 t) (iblk2 V c 2 t) (iblk2 V c 3 t) (iblk2 V c 4 t) y = entered2 V c b o n := by
  idx_vars y
  obtain rfl : y0 = 0 := Subsingleton.elim _ _
  obtain rfl : o = y1 := Fin.ext ho
  exact (tile2_at _ _ _ _ _ o y2).trans (point2 V c t o y2 b n hb hn)

/-- The second layer the stage leaves. -/
theorem layer_final : (dat1 V c).arrAt 6 cfg1.N = (fun i => entered1 V c (i 0) (i 1) (i 2) : FVec Ideal S4x128x8192 .f32) := by
  refine (dat1 V c).arrAt_eq_of_covers 6 _ (by decide +kernel) fun t _ y => ?_
  blk_simp
  rw [after1_6]
  refine tile1_read V c t y _ _ _ ?_ ?_ ?_ <;> blk_simp [idx1 t] <;> try omega
/-- The result the last stage leaves. -/
theorem result_final : (dat2 V c).arrAt 5 cfg2.N = (fun i => entered2 V c (i 0) (i 1) (i 2) : FVec Ideal S4x128x8192 .f32) := by
  refine (dat2 V c).arrAt_eq_of_covers 5 _ (by decide +kernel) fun t _ y => ?_
  blk_simp
  rw [after2_5]
  refine tile2_read V c t y _ _ _ ?_ ?_ ?_ <;> blk_simp [idx2 t] <;> try omega

/-- The batch and the column a lane of a point's tile lies at. -/
abbrev batch1 (s : ℕ) (h : s < 16) : Fin 4 := ⟨s / 4, by omega⟩
abbrev lane1 (s : ℕ) (j : Fin 2048) : Fin 8192 := ⟨s % 4 * 2048 + j.val, by omega⟩

theorem mat1_sum (t : Fin cfg1.N) (h : t.val < 16) (o : Fin 128) :
    ∑ j, mat1 (F := Ideal) (iblk1 V c 0 t) (iblk1 V c 1 t) (iblk1 V c 2 t) (iblk1 V c 3 t) (iblk1 V c 4 t) (iblk1 V c 5 t) (ix2 o j)
      = ∑ j, entered1 V c (batch1 t.val h) o (lane1 t.val j) :=
  Finset.sum_congr rfl fun j _ => (mat1_at _ _ _ _ _ _ o j).trans (point1 V c t o j _ _ rfl rfl)
theorem mat1_sq (t : Fin cfg1.N) (h : t.val < 16) (o : Fin 128) :
    ∑ j, mat1 (F := Ideal) (iblk1 V c 0 t) (iblk1 V c 1 t) (iblk1 V c 2 t) (iblk1 V c 3 t) (iblk1 V c 4 t) (iblk1 V c 5 t) (ix2 o j)
        * mat1 (F := Ideal) (iblk1 V c 0 t) (iblk1 V c 1 t) (iblk1 V c 2 t) (iblk1 V c 3 t) (iblk1 V c 4 t) (iblk1 V c 5 t) (ix2 o j)
      = ∑ j, entered1 V c (batch1 t.val h) o (lane1 t.val j) * entered1 V c (batch1 t.val h) o (lane1 t.val j) :=
  Finset.sum_congr rfl fun j _ =>
    have e := (mat1_at _ _ _ _ _ _ o j).trans (point1 V c t o j (batch1 t.val h) (lane1 t.val j) rfl rfl)
    congrArg₂ (fun a b : EReal => a * b) e e

/-- The running rows after a point are the sums over the points so far. -/
theorem rows1_at (o : Fin 128) : ∀ (p : ℕ) (hp : p < cfg1.N) (h : p < 16),
    (rows1 V c p hp).1 (ix2 0 o) = ∑ s : Fin (p + 1), ∑ j, entered1 V c (batch1 s.val (by omega)) o (lane1 s.val j)
    ∧ (rows1 V c p hp).2 (ix2 0 o) = ∑ s : Fin (p + 1), ∑ j, entered1 V c (batch1 s.val (by omega)) o (lane1 s.val j)
        * entered1 V c (batch1 s.val (by omega)) o (lane1 s.val j)
  | 0, hp, h => by
    rw [rows1, Fin.sum_univ_one, Fin.sum_univ_one]
    unfold sum1 sq1
    exact ⟨(rowSum_at _ o).trans (mat1_sum V c ⟨0, hp⟩ h o), (rowSq_at _ o).trans (mat1_sq V c ⟨0, hp⟩ h o)⟩
  | p + 1, hp, h => by
    have ih := rows1_at o p (Nat.lt_of_succ_lt hp) (by omega)
    rw [rows1]
    exact ⟨((accSum_at _ _ o).trans (congrArg₂ (· + ·) ih.1 (mat1_sum V c ⟨p + 1, hp⟩ h o))).trans (Fin.sum_univ_castSucc fun s : Fin (p + 2) =>
        ∑ j, entered1 V c (batch1 s.val (by omega)) o (lane1 s.val j)).symm,
      ((accSq_at _ _ o).trans (congrArg₂ (· + ·) ih.2 (mat1_sq V c ⟨p + 1, hp⟩ h o))).trans (Fin.sum_univ_castSucc fun s : Fin (p + 2) =>
        ∑ j, entered1 V c (batch1 s.val (by omega)) o (lane1 s.val j) * entered1 V c (batch1 s.val (by omega)) o (lane1 s.val j)).symm⟩

/-- The tiles of a grid make up the whole array. -/
theorem retile1 (f : Fin 4 → Fin 8192 → EReal) :
    ∑ s : Fin 16, ∑ j : Fin 2048, f (batch1 s.val s.isLt) (lane1 s.val j) = ∑ b, ∑ n, f b n := by
  refine Fin.sum_divmod_congr (A := 4) (S := 4) (f := fun b i => ∑ j : Fin 2048, f b ⟨i.val * 2048 + j.val, by omega⟩) (fun s _ _ => rfl) |>.trans ?_
  refine Finset.sum_congr rfl fun b _ => ?_
  exact Fin.sum_mul_add_congr fun i j h => rfl

theorem row1_read (t : Fin cfg1.N) (h : t.val = 15) (y : S1x128.Idx) (o : Fin 128) (ho : o.val = (y 1).val) :
    (rows1 V c t.val t.isLt).1 y = ∑ b, ∑ n, entered1 V c b o n
    ∧ (rows1 V c t.val t.isLt).2 y = ∑ b, ∑ n, entered1 V c b o n * entered1 V c b o n := by
  idx_vars y
  obtain rfl : y0 = 0 := Subsingleton.elim _ _
  obtain rfl : o = y1 := Fin.ext ho
  obtain ⟨p, hp⟩ := t
  obtain rfl : p = 15 := h
  have h' := rows1_at V c o 15 hp (by omega)
  exact ⟨h'.1.trans (retile1 fun b n => entered1 V c b o n), h'.2.trans (retile1 fun b n => entered1 V c b o n * entered1 V c b o n)⟩

theorem last1 (t : Fin cfg1.N) (h : t.val % 16 = 15) : t.val = 15 := by have := t.isLt; have := steps1; omega

/-- The sums and the sums of squares it leaves. -/
theorem sums1_final : (dat1 V c).arrAt 7 cfg1.N = (fun i => ∑ b, ∑ n, entered1 V c b (i 1) n : FVec Ideal S1x128 .f32) := by
  refine (dat1 V c).arrAt_eq_of_covers 7 _ (by decide +kernel) fun t hf y => ?_
  blk_simp
  rw [after1_7]
  refine (row1_read V c t (last1 t ((flush1_7 t).mp hf)) y _ ?_).1
  blk_simp [idx1 t]
theorem squares1_final : (dat1 V c).arrAt 8 cfg1.N
    = (fun i => ∑ b, ∑ n, entered1 V c b (i 1) n * entered1 V c b (i 1) n : FVec Ideal S1x128 .f32) := by
  refine (dat1 V c).arrAt_eq_of_covers 8 _ (by decide +kernel) fun t hf y => ?_
  blk_simp
  rw [after1_8]
  refine (row1_read V c t (last1 t ((flush1_8 t).mp hf)) y _ ?_).2
  blk_simp [idx1 t]

end Cert.KernelIdeal.Value
-- ==== Proof.Math.Network.lean ====
/- The kernel's result as a formula over its arguments, coordinate by coordinate. -/
module

public import proofs.«01_k».proof.Proof.Math.Layers

@[expose] public section

noncomputable section

namespace Cert.Math

open Idealize.ShloMosaic

/-- One channel normalised over all its points. -/
def channel (Y : Fin 4 → Fin 8192 → EReal) (g β : EReal) (b : Fin 4) (n : Fin 8192) : EReal :=
  normed (∑ b, ∑ n, Y b n) (∑ b, ∑ n, Y b n * Y b n) g β (Y b n)

/-- The arguments, by coordinates; the two bias vectors are not among them. -/
structure Inputs where
  x1 : Fin 4 → Fin 8192 → Fin 3 → EReal
  x2 : Fin 4 → Fin 2048 → Fin 3 → EReal
  p1 : Fin 4 → Fin 64 → Fin 8192 → EReal
  p2 : Fin 4 → Fin 128 → Fin 2048 → EReal
  w0 : Fin 128 → Fin 192 → EReal
  g0 : Fin 128 → EReal
  β0 : Fin 128 → EReal
  w1 : Fin 128 → Fin 128 → EReal
  g1 : Fin 128 → EReal
  β1 : Fin 128 → EReal

namespace Inputs
variable (A : Inputs)

/-- The first mixing layer, -/
def layer0 (b : Fin 4) (o : Fin 128) (n : Fin 8192) : EReal :=
  mix (A.x1 b n) (fun d a => A.x2 b a d) (fun k => A.p1 b k n) (A.p2 b) (fun k => A.w0 o ⟨k.val, by omega⟩)
    (fun k => A.w0 o ⟨64 + k.val, by omega⟩)
/-- normalised; -/
def normal0 (b : Fin 4) (o : Fin 128) (n : Fin 8192) : EReal := channel (fun b n => A.layer0 b o n) (A.g0 o) (A.β0 o) b n
/-- the second, -/
def layer1 (b : Fin 4) (o : Fin 128) (n : Fin 8192) : EReal := ∑ k, A.w1 o k * A.normal0 b k n
/-- normalised. -/
def normal1 (b : Fin 4) (o : Fin 128) (n : Fin 8192) : EReal := channel (fun b n => A.layer1 b o n) (A.g1 o) (A.β1 o) b n
end Inputs

end Cert.Math
-- ==== Proof.Value.Result.lean ====
/- What the kernel returns: its three stages put together over the arguments. -/
module

public import proofs.«01_k».proof.Proof.Value.ArraysA
public import proofs.«01_k».proof.Proof.Value.ArraysB
public import proofs.«01_k».proof.Proof.Math.Network
public import proofs.«01_k».proof.Proof.KernelIdeal.Run

@[expose] public section

set_option maxRecDepth 16384

noncomputable section

namespace Cert.KernelIdeal.Value

open Idealize.ShloMosaic Idealize.ShloMosaic.TcCoe Idealize.SL.Sem
open Cert.KernelIdeal Cert.KernelIdeal.Gen Cert.KernelIdeal.Steps
open Cert.Math

variable (m : (ℓ : Loc nD τ sig) → Buf (Elt Ideal) ℓ) (ρ : Dev nD → PrngReg) (c : Dev nD)

/-- The arguments by coordinates. -/
def inputs : Inputs where
  x1 b n d := (m ((c : Thread nD τ).loc main_arg0) : FVec Ideal S4x8192x3 .f32) (ix3 b n d)
  x2 b a d := (m ((c : Thread nD τ).loc main_arg1) : FVec Ideal S4x2048x3 .f32) (ix3 b a d)
  p1 b k n := (m ((c : Thread nD τ).loc main_arg2) : FVec Ideal S4x64x8192 .f32) (ix3 b k n)
  p2 b k a := (m ((c : Thread nD τ).loc main_arg3) : FVec Ideal S4x128x2048 .f32) (ix3 b k a)
  w0 o k := (m ((c : Thread nD τ).loc main_arg4) : FVec Ideal S128x192 .f32) (ix2 o k)
  g0 o := (m ((c : Thread nD τ).loc main_arg6) : FVec Ideal S128 .f32) (ix1 o)
  β0 o := (m ((c : Thread nD τ).loc main_arg7) : FVec Ideal S128 .f32) (ix1 o)
  w1 o k := (m ((c : Thread nD τ).loc main_arg8) : FVec Ideal S128x128 .f32) (ix2 o k)
  g1 o := (m ((c : Thread nD τ).loc main_arg10) : FVec Ideal S128 .f32) (ix1 o)
  β1 o := (m ((c : Thread nD τ).loc main_arg11) : FVec Ideal S128 .f32) (ix1 o)

/-- The host's rearrangements, read at an index. -/
theorem query_read (b : Fin 4) (d : Fin 3) (n : Fin 8192) :
    (V1 m ρ c main_v0 : FVec Ideal S4x3x8192 .f32) (ix3 b d n) = (inputs m c).x1 b n d := by
  show (StableHlo.after hostOps0 (W0 m ρ c) (Proc.devRef .tc main_v0) : FVec Ideal S4x3x8192 .f32) (ix3 b d n) = _
  entry_read; pointwise; rfl
theorem known_read (b : Fin 4) (d : Fin 3) (a : Fin 2048) :
    (V1 m ρ c main_v1 : FVec Ideal S4x3x2048 .f32) (ix3 b d a) = (inputs m c).x2 b a d := by
  show (StableHlo.after hostOps0 (W0 m ρ c) (Proc.devRef .tc main_v1) : FVec Ideal S4x3x2048 .f32) (ix3 b d a) = _
  entry_read; pointwise; rfl
theorem row_cast (x : FVec Ideal S128 .f32) (o : Fin 128) : (shapeCast S1x128 x shapeCasts_S128_S1x128) (ix2 0 o) = x (ix1 o) := by
  pointwise
theorem scale0_read (o : Fin 128) : (V3 m ρ c main_v3 : FVec Ideal S1x128 .f32) (ix2 0 o) = (inputs m c).g0 o := by
  have e : W2 m ρ c (Proc.devRef .tc main_arg6) = m ((c : Thread nD τ).loc main_arg6) := W2_args m ρ c main_arg6 (by decide)
  have r : StableHlo.after hostOps1 (W2 m ρ c) (Proc.devRef .tc main_v3)
      = (shapeCast S1x128 (W2 m ρ c (Proc.devRef .tc main_arg6) : FVec Ideal S128 .f32) shapeCasts_S128_S1x128 : FVec Ideal S1x128 .f32) := by
    entry_read; rfl
  exact (congrFun r _).trans ((row_cast _ o).trans (congrFun e _))
theorem shift0_read (o : Fin 128) : (V3 m ρ c main_v4 : FVec Ideal S1x128 .f32) (ix2 0 o) = (inputs m c).β0 o := by
  have e : W2 m ρ c (Proc.devRef .tc main_arg7) = m ((c : Thread nD τ).loc main_arg7) := W2_args m ρ c main_arg7 (by decide)
  have r : StableHlo.after hostOps1 (W2 m ρ c) (Proc.devRef .tc main_v4)
      = (shapeCast S1x128 (W2 m ρ c (Proc.devRef .tc main_arg7) : FVec Ideal S128 .f32) shapeCasts_S128_S1x128 : FVec Ideal S1x128 .f32) := by
    entry_read; rfl
  exact (congrFun r _).trans ((row_cast _ o).trans (congrFun e _))
theorem scale1_read (o : Fin 128) : (V5 m ρ c main_v6 : FVec Ideal S1x128 .f32) (ix2 0 o) = (inputs m c).g1 o := by
  have e : W4 m ρ c (Proc.devRef .tc main_arg10) = m ((c : Thread nD τ).loc main_arg10) := W4_args m ρ c main_arg10 (by decide)
  have r : StableHlo.after hostOps2 (W4 m ρ c) (Proc.devRef .tc main_v6)
      = (shapeCast S1x128 (W4 m ρ c (Proc.devRef .tc main_arg10) : FVec Ideal S128 .f32) shapeCasts_S128_S1x128 : FVec Ideal S1x128 .f32) := by
    entry_read; rfl
  exact (congrFun r _).trans ((row_cast _ o).trans (congrFun e _))
theorem shift1_read (o : Fin 128) : (V5 m ρ c main_v7 : FVec Ideal S1x128 .f32) (ix2 0 o) = (inputs m c).β1 o := by
  have e : W4 m ρ c (Proc.devRef .tc main_arg11) = m ((c : Thread nD τ).loc main_arg11) := W4_args m ρ c main_arg11 (by decide)
  have r : StableHlo.after hostOps2 (W4 m ρ c) (Proc.devRef .tc main_v7)
      = (shapeCast S1x128 (W4 m ρ c (Proc.devRef .tc main_arg11) : FVec Ideal S128 .f32) shapeCasts_S128_S1x128 : FVec Ideal S1x128 .f32) := by
    entry_read; rfl
  exact (congrFun r _).trans ((row_cast _ o).trans (congrFun e _))

/-- The layers over arrays that read as the arguments do. -/
theorem layer0_of (A : Inputs) (T1 : FVec Ideal S4x3x8192 .f32) (T2 : FVec Ideal S4x3x2048 .f32) (P1 : FVec Ideal S4x64x8192 .f32)
    (P2 : FVec Ideal S4x128x2048 .f32) (W : FVec Ideal S128x192 .f32) (h1 : ∀ b d n, T1 (ix3 b d n) = A.x1 b n d)
    (h2 : ∀ b d a, T2 (ix3 b d a) = A.x2 b a d) (h3 : ∀ b k n, P1 (ix3 b k n) = A.p1 b k n) (h4 : ∀ b k a, P2 (ix3 b k a) = A.p2 b k a)
    (h5 : ∀ o k, W (ix2 o k) = A.w0 o k) (b : Fin 4) (o : Fin 128) (n : Fin 8192) :
    layer0 T1 T2 P1 P2 W b o n = A.layer0 b o n := by
  unfold layer0 Inputs.layer0
  simp only [h1, h2, h3, h4, h5]
theorem normal_of (Y : FVec Ideal S4x128x8192 .f32) (s q g β : FVec Ideal S1x128 .f32) (L : Fin 4 → Fin 128 → Fin 8192 → EReal)
    (G B : Fin 128 → EReal) (hY : ∀ b k n, Y (ix3 b k n) = L b k n) (hs : ∀ k, s (ix2 0 k) = ∑ b, ∑ n, L b k n)
    (hq : ∀ k, q (ix2 0 k) = ∑ b, ∑ n, L b k n * L b k n) (hg : ∀ k, g (ix2 0 k) = G k) (hβ : ∀ k, β (ix2 0 k) = B k)
    (b : Fin 4) (k : Fin 128) (n : Fin 8192) : normal Y s q g β b k n = channel (fun b n => L b k n) (G k) (B k) b n := by
  unfold normal channel
  rw [hY, hs, hq, hg, hβ]

theorem sums_of {f g : Fin 4 → Fin 8192 → EReal} (h : ∀ b n, f b n = g b n) : ∑ b, ∑ n, f b n = ∑ b, ∑ n, g b n :=
  Finset.sum_congr rfl fun b _ => Finset.sum_congr rfl fun n _ => h b n

/-- The first stage. -/
theorem first (b : Fin 4) (o : Fin 128) (n : Fin 8192) : entered0 (V1 m ρ) c b o n = (inputs m c).layer0 b o n := by
  have h2 : V1 m ρ c main_arg2 = m ((c : Thread nD τ).loc main_arg2) := W1_args m ρ c main_arg2 (by decide)
  have h3 : V1 m ρ c main_arg3 = m ((c : Thread nD τ).loc main_arg3) := W1_args m ρ c main_arg3 (by decide)
  have h4 : V1 m ρ c main_arg4 = m ((c : Thread nD τ).loc main_arg4) := W1_args m ρ c main_arg4 (by decide)
  exact layer0_of (inputs m c) _ _ _ _ _ (query_read m ρ c) (known_read m ρ c) (fun _ _ _ => congrFun h2 _) (fun _ _ _ => congrFun h3 _)
    (fun _ _ => congrFun h4 _) b o n
theorem kept0 (r : Ref sig .tc) (h : r ∉ written1) : V3 m ρ c r = W2 m ρ c (Proc.devRef .tc r) := W3_of m ρ c r h
theorem mixed_read (b : Fin 4) (o : Fin 128) (n : Fin 8192) :
    (V3 m ρ c main_v2_0 : FVec Ideal S4x128x8192 .f32) (ix3 b o n) = (inputs m c).layer0 b o n :=
  (congrFun ((kept0 m ρ c main_v2_0 (by decide)).trans ((W2_arr m ρ c 5).trans (mixed_final (V1 m ρ) c))) (ix3 b o n)).trans
    (first m ρ c b o n)
theorem sum_read (o : Fin 128) : (V3 m ρ c main_v2_1 : FVec Ideal S1x128 .f32) (ix2 0 o) = (∑ b, ∑ n, (inputs m c).layer0 b o n : EReal) :=
  (congrFun ((kept0 m ρ c main_v2_1 (by decide)).trans ((W2_arr m ρ c 6).trans (sums_final (V1 m ρ) c))) (ix2 0 o)).trans
    (sums_of fun b n => first m ρ c b o n)
theorem square_read (o : Fin 128) : (V3 m ρ c main_v2_2 : FVec Ideal S1x128 .f32) (ix2 0 o)
    = (∑ b, ∑ n, (inputs m c).layer0 b o n * (inputs m c).layer0 b o n : EReal) :=
  (congrFun ((kept0 m ρ c main_v2_2 (by decide)).trans ((W2_arr m ρ c 7).trans (squares_final (V1 m ρ) c))) (ix2 0 o)).trans
    (sums_of fun b n => congrArg (fun z : EReal => z * z) (first m ρ c b o n))

/-- The second stage. -/
theorem second (b : Fin 4) (o : Fin 128) (n : Fin 8192) : entered1 (V3 m ρ) c b o n = (inputs m c).layer1 b o n := by
  have h8 : V3 m ρ c main_arg8 = m ((c : Thread nD τ).loc main_arg8) := W3_args m ρ c main_arg8 (by decide)
  have hn := normal_of _ _ _ _ _ (inputs m c).layer0 _ _ (mixed_read m ρ c) (sum_read m ρ c) (square_read m ρ c) (scale0_read m ρ c)
    (shift0_read m ρ c)
  exact Finset.sum_congr rfl fun k _ => congrArg₂ (fun x y : EReal => x * y) (congrFun h8 (ix2 o k)) (hn b k n)
theorem kept1 (r : Ref sig .tc) (h : r ∉ written2) : V5 m ρ c r = W4 m ρ c (Proc.devRef .tc r) := W5_of m ρ c r h
theorem layer_read (b : Fin 4) (o : Fin 128) (n : Fin 8192) :
    (V5 m ρ c main_v5_0 : FVec Ideal S4x128x8192 .f32) (ix3 b o n) = (inputs m c).layer1 b o n :=
  (congrFun ((kept1 m ρ c main_v5_0 (by decide)).trans ((W4_arr m ρ c 6).trans (layer_final (V3 m ρ) c))) (ix3 b o n)).trans
    (second m ρ c b o n)
theorem sum1_read (o : Fin 128) : (V5 m ρ c main_v5_1 : FVec Ideal S1x128 .f32) (ix2 0 o) = (∑ b, ∑ n, (inputs m c).layer1 b o n : EReal) :=
  (congrFun ((kept1 m ρ c main_v5_1 (by decide)).trans ((W4_arr m ρ c 7).trans (sums1_final (V3 m ρ) c))) (ix2 0 o)).trans
    (sums_of fun b n => second m ρ c b o n)
theorem square1_read (o : Fin 128) : (V5 m ρ c main_v5_2 : FVec Ideal S1x128 .f32) (ix2 0 o)
    = (∑ b, ∑ n, (inputs m c).layer1 b o n * (inputs m c).layer1 b o n : EReal) :=
  (congrFun ((kept1 m ρ c main_v5_2 (by decide)).trans ((W4_arr m ρ c 8).trans (squares1_final (V3 m ρ) c))) (ix2 0 o)).trans
    (sums_of fun b n => congrArg (fun z : EReal => z * z) (second m ρ c b o n))

/-- What the kernel returns. -/
theorem third (b : Fin 4) (o : Fin 128) (n : Fin 8192) : entered2 (V5 m ρ) c b o n = (inputs m c).normal1 b o n :=
  normal_of _ _ _ _ _ (inputs m c).layer1 _ _ (layer_read m ρ c) (sum1_read m ρ c) (square1_read m ρ c) (scale1_read m ρ c)
    (shift1_read m ρ c) b o n
theorem result : W6 m ρ c (Proc.devRef .tc main_v8)
    = (fun i => (inputs m c).normal1 (i 0) (i 1) (i 2) : FVec Ideal S4x128x8192 .f32) :=
  (W6_arr m ρ c 5).trans ((result_final (V5 m ρ) c).trans (funext fun i => third m ρ c (i 0) (i 1) (i 2)))

end Cert.KernelIdeal.Value
-- ==== Proof.Value.Pick.lean ====
/- Reading an array at a chosen place: the two gathers of the reference, where the chosen place is inside the array. -/
module

public import proofs.«01_k».proof.Proof.Gen.ReferenceIdeal.Run
public import Idealize.ShloMosaic.Lib.Pointwise

@[expose] public section

set_option maxRecDepth 16384

noncomputable section

namespace Cert.ReferenceIdeal.Value

open Idealize.ShloMosaic
open Cert.ReferenceIdeal Cert.ReferenceIdeal.Gen

/-- A small number as a signed 32-bit word. -/
theorem toInt_small (i : Nat) (h : i < 2048) : (BitVec.ofNat 32 i).toInt.toNat = i := by
  rw [BitVec.toInt_ofNat']
  rw [Int.bmod_eq_of_le (by omega) (by omega)]
  simp

/-- A distance picked out of a row. -/
theorem pick_row (X : FVec Ideal S4x8192x2048 .f32) (I : IVec S4x8192x3x1 32) (b : Fin 4) (n : Fin 8192) (k : Fin 3) (i : Fin 2048)
    (h : I (ix4 b n k 0) = BitVec.ofNat 32 i.val) :
    Host.gather gather_S4x8192x2048_S4x8192x3x1_S4x8192x3_n_2_01_01_2_3_111 X I (ix3 b n k) = X (ix3 b n i) := by
  unfold Host.gather
  congr 1
  funext a
  refine Fin.ext ?_
  match a with
  | ⟨0, _⟩ => show 0 + b.val + 0 = b.val; omega
  | ⟨1, _⟩ => show 0 + n.val + 0 = n.val; omega
  | ⟨2, _⟩ =>
    have e : ∀ j : S4x8192x3x1.Idx, j = ix4 b n k 0 → min (I j).toInt.toNat 2047 = i.val := fun j hj => by
      rw [hj, h, toInt_small _ i.isLt]
      omega
    refine e _ ?_
    funext a
    match a with
    | ⟨0, _⟩ => rfl
    | ⟨1, _⟩ => rfl
    | ⟨2, _⟩ => rfl
    | ⟨3, _⟩ => rfl

/-- A feature picked out of a batch. -/
theorem pick_feature (X : FVec Ideal S4x2048x128 .f32) (I : IVec S4x8192x3x2 32) (b : Fin 4) (n : Fin 8192) (k : Fin 3) (c : Fin 128)
    (i : Fin 2048) (hb : I (ix4 b n k 0) = BitVec.ofNat 32 b.val) (h : I (ix4 b n k 1) = BitVec.ofNat 32 i.val) :
    Host.gather gather_S4x2048x128_S4x8192x3x2_S4x8192x3x128_3_01_n_n_01_3_11128 X I (ix4 b n k c) = X (ix3 b i c) := by
  unfold Host.gather
  congr 1
  funext a
  refine Fin.ext ?_
  match a with
  | ⟨0, _⟩ =>
    have e : ∀ j : S4x8192x3x2.Idx, j = ix4 b n k 0 → min (I j).toInt.toNat 3 = b.val := fun j hj => by
      have := b.isLt
      rw [hj, hb, toInt_small _ (by omega)]
      omega
    refine e _ ?_
    funext a
    match a with
    | ⟨0, _⟩ => rfl
    | ⟨1, _⟩ => rfl
    | ⟨2, _⟩ => rfl
    | ⟨3, _⟩ => rfl
  | ⟨1, _⟩ =>
    have e : ∀ j : S4x8192x3x2.Idx, j = ix4 b n k 1 → min (I j).toInt.toNat 2047 = i.val := fun j hj => by
      rw [hj, h, toInt_small _ i.isLt]
      omega
    refine e _ ?_
    funext a
    match a with
    | ⟨0, _⟩ => rfl
    | ⟨1, _⟩ => rfl
    | ⟨2, _⟩ => rfl
    | ⟨3, _⟩ => rfl
  | ⟨2, _⟩ => show 0 + 0 + c.val = c.val; omega

/-- The sum over two axes of three. -/
theorem sum_two (X : S4x128x8192.Idx → EReal) (h : S4x128x8192.ReducesTo [0, 2] S128) (o : Fin 128) :
    Ideal.hostReduceAdd h X 0 (ix1 o) = ∑ b : Fin 4, ∑ n : Fin 8192, X (ix3 b o n) := by
  unfold Ideal.hostReduceAdd
  rw [zero_add, ← Fintype.sum_prod_type' fun (b : Fin 4) (n : Fin 8192) => X (ix3 b o n)]
  have hd : ∀ i : S4x128x8192.Idx, h.drop i = ix1 o ↔ (i 1).val = o.val := fun i => by
    constructor
    · intro e
      exact congrArg (fun z : S128.Idx => (z 0).val) e
    · intro e
      funext a
      match a with
      | ⟨0, _⟩ => exact Fin.ext e
  refine Finset.sum_bij' (fun i _ => ((i 0 : Fin 4), (i 2 : Fin 8192))) (fun p _ => (ix3 p.1 o p.2 : S4x128x8192.Idx)) ?_ ?_ ?_ ?_ ?_
  · intro i _; exact Finset.mem_univ _
  · intro p _
    rw [Finset.mem_filter]
    exact ⟨Finset.mem_univ _, (hd _).mpr rfl⟩
  · intro i hi
    have e := (hd i).mp (Finset.mem_filter.mp hi).2
    funext a
    match a with
    | ⟨0, _⟩ => rfl
    | ⟨1, _⟩ => exact Fin.ext e.symm
    | ⟨2, _⟩ => rfl
  · intro p _; rfl
  · intro i hi
    have e := (hd i).mp (Finset.mem_filter.mp hi).2
    congr 1
    funext a
    match a with
    | ⟨0, _⟩ => rfl
    | ⟨1, _⟩ => exact Fin.ext e
    | ⟨2, _⟩ => rfl

end Cert.ReferenceIdeal.Value
-- ==== Proof.Value.Choice.lean ====
/- The reference's choice of the nearest points: the first entries of a stable sort, greatest first, the same whether three
   of them are taken or four. -/
module

public import Idealize.ShloMosaic.Lib.Pointwise
public import Idealize.ShloMosaic.Lib.SortFacts

@[expose] public section

set_option maxRecDepth 16384

noncomputable section

namespace Cert.Choice

open Idealize.ShloMosaic

abbrev All : Shape := ⟨3, ![4, 8192, 2048]⟩
abbrev Three : Shape := ⟨3, ![4, 8192, 3]⟩
abbrev Four : Shape := ⟨3, ![4, 8192, 4]⟩

/-- Which of two points of a row comes first, -/
def before (x : Fin 2048 → EReal) (k k' : Fin 2048) : Bool := Ideal.cmp .ogt (x k) (x k') == 1#1
/-- and which point is at a place of the sorted row. -/
def place (x : Fin 2048 → EReal) : Fin 2048 → Fin 2048 := sortedFrom (before x)

theorem before_iff (x : Fin 2048 → EReal) (k k' : Fin 2048) : before x k k' = true ↔ x k' < x k := by
  unfold before Ideal.cmp
  by_cases h : x k' < x k <;> simp [h]
theorem place_injective (x : Fin 2048 → EReal) : Function.Injective (place x) := sortedFrom_injective _
theorem place_surjective (x : Fin 2048 → EReal) : Function.Surjective (place x) := sortedFrom_surjective _
/-- The sorted row does not increase. -/
theorem place_le (x : Fin 2048 → EReal) (i j : Fin 2048) (h : i < j) : x (place x j) ≤ x (place x i) := by
  have hn := sortedFrom_noInversion (before x) (before x)
    (fun a b hab => by
      rw [before_iff] at hab
      rw [← Bool.not_eq_true, before_iff]
      exact hab.not_gt)
    (fun a b hab => hab)
    (fun a b c hab hbc => by
      rw [← Bool.not_eq_true, before_iff, not_lt] at hab hbc ⊢
      exact hab.trans hbc) i j h
  rw [← Bool.not_eq_true, before_iff, not_lt] at hn
  exact hn

/-- A row of an array. -/
abbrev row (X : FVec Ideal All .f32) (b : Fin 4) (n : Fin 8192) : Fin 2048 → EReal := fun a => X (ix3 b n a)

theorem along_eq (b : Fin 4) (n : Fin 8192) (a k : Fin 2048) : ((ix3 b n a : All.Idx).along 2 k : All.Idx) = ix3 b n k := by
  funext c
  match c with
  | ⟨0, _⟩ => rfl
  | ⟨1, _⟩ => rfl
  | ⟨2, _⟩ => rfl
/-- The sort read at a place. -/
theorem sorted (X : FVec Ideal All .f32) (I : IVec All 32) (b : Fin 4) (n : Fin 8192) (a : Fin 2048) :
    (Host.sort2 All 2 (fun l r => FloatOps.cmpfTotal (F := Ideal) (φ := .f32) .gt l.1 r.1) X I).1 (ix3 b n a)
        = X (ix3 b n (place (row X b n) a))
      ∧ (Host.sort2 All 2 (fun l r => FloatOps.cmpfTotal (F := Ideal) (φ := .f32) .gt l.1 r.1) X I).2 (ix3 b n a)
        = I (ix3 b n (place (row X b n) a)) := by
  unfold Host.sort2
  rw [dif_pos (show 2 < All.rank by decide)]
  have e : (fun k k' : Fin 2048 => FloatOps.cmpfTotal (F := Ideal) (φ := .f32) .gt (X ((ix3 b n a : All.Idx).along 2 k))
      (X ((ix3 b n a : All.Idx).along 2 k')) == 1#1) = before (row X b n) := by
    funext k k'
    rw [along_eq, along_eq]
    rfl
  constructor
  · exact (congrArg (fun R : Fin 2048 → Fin 2048 → Bool => X ((ix3 b n a : All.Idx).along 2 (sortedFrom R a))) e).trans
      (congrArg X (along_eq b n a (sortedFrom (before (row X b n)) a)))
  · exact (congrArg (fun R : Fin 2048 → Fin 2048 → Bool => I ((ix3 b n a : All.Idx).along 2 (sortedFrom R a))) e).trans
      (congrArg I (along_eq b n a (sortedFrom (before (row X b n)) a)))

theorem three_index (X : FVec Ideal All .f32) (h : All.Slices (fun _ => 0) Three) (b : Fin 4) (n : Fin 8192) (k : Fin 3) :
    (Host.topK Three 2 (FloatOps.cmpfTotal .gt) X h).2 (ix3 b n k)
      = BitVec.ofNat 32 (place (row X b n) ⟨k.val, by omega⟩).val := by
  have r : ∀ I : IVec All 32, extractStridedSlice Three (fun _ => 0) I h (ix3 b n k) = I (ix3 b n ⟨k.val, by omega⟩) := fun I => by
    unfold extractStridedSlice
    congr 1
    funext c
    match c with
    | ⟨0, _⟩ => exact Fin.ext (Nat.zero_add _)
    | ⟨1, _⟩ => exact Fin.ext (Nat.zero_add _)
    | ⟨2, _⟩ => exact Fin.ext (Nat.zero_add _)
  unfold Host.topK
  exact (r _).trans ((sorted X (fun i => if hd : 2 < All.rank then iotaInDim All 32 ⟨2, hd⟩ i else 0#32) b n ⟨k.val, by omega⟩).2.trans
    (dif_pos (show 2 < All.rank by decide)))
theorem four_value (X : FVec Ideal All .f32) (h : All.Slices (fun _ => 0) Four) (b : Fin 4) (n : Fin 8192) (k : Fin 4) :
    (Host.topK Four 2 (FloatOps.cmpfTotal .gt) X h).1 (ix3 b n k) = X (ix3 b n (place (row X b n) ⟨k.val, by omega⟩)) := by
  have r : ∀ I : FVec Ideal All .f32, extractStridedSlice Four (fun _ => 0) I h (ix3 b n k) = I (ix3 b n ⟨k.val, by omega⟩) := fun I => by
    unfold extractStridedSlice
    congr 1
    funext c
    match c with
    | ⟨0, _⟩ => exact Fin.ext (Nat.zero_add _)
    | ⟨1, _⟩ => exact Fin.ext (Nat.zero_add _)
    | ⟨2, _⟩ => exact Fin.ext (Nat.zero_add _)
  unfold Host.topK
  exact (r _).trans (sorted X (fun i => if hd : 2 < All.rank then iotaInDim All 32 ⟨2, hd⟩ i else 0#32) b n ⟨k.val, by omega⟩).1

end Cert.Choice
-- ==== Proof.Math.Select.lean ====
/- The three rounds of the kernel's search find the three nearest points, and the weights they give are the reciprocals of
   the distances. -/
module

public import proofs.«01_k».proof.Proof.Math.Layers

@[expose] public section

noncomputable section

namespace Cert.Math

open Idealize.ShloMosaic

theorem low_le (S : Fin 2048 → EReal) (a : Fin 2048) : low S ≤ S a :=
  (Finset.fold_min_le _).mpr (Or.inr ⟨a, Finset.mem_univ a, le_rfl⟩)
theorem low_eq (S : Fin 2048 → EReal) (i : Fin 2048) (h : ∀ a, a ≠ i → S i < S a) : low S = S i := by
  refine le_antisymm (low_le S i) ?_
  refine Finset.le_fold_min (S i) |>.mpr ⟨le_top, fun a _ => ?_⟩
  by_cases e : a = i
  · rw [e]
  · exact (h a e).le
theorem eq_low_iff (S : Fin 2048 → EReal) (i : Fin 2048) (h : ∀ a, a ≠ i → S i < S a) (a : Fin 2048) : S a = low S ↔ a = i := by
  rw [low_eq S i h]
  constructor
  · intro e
    by_contra hne
    exact absurd e (h a hne).ne'
  · rintro rfl; rfl

/-- One point is nearer than every other one of a set, what is outside the set being hidden. -/
structure Nearest (S : Fin 2048 → EReal) (i1 i2 i3 : Fin 2048) : Prop where
  h12 : S i1 < S i2
  h23 : S i2 < S i3
  fin : S i3 < ⊤
  rest : ∀ a, a ≠ i1 → a ≠ i2 → a ≠ i3 → S i3 < S a

namespace Nearest
variable {S : Fin 2048 → EReal} {i1 i2 i3 : Fin 2048} (h : Nearest S i1 i2 i3)
include h

theorem round1 : ∀ a, a ≠ i1 → S i1 < S a := fun a ha => by
  by_cases e2 : a = i2
  · rw [e2]; exact h.h12
  by_cases e3 : a = i3
  · rw [e3]; exact h.h12.trans h.h23
  exact (h.h12.trans h.h23).trans (h.rest a ha e2 e3)
theorem hide1 : hide S = fun a => if a = i1 then ⊤ else S a := by
  funext a
  unfold hide
  simp only [eq_low_iff S i1 h.round1 a]
theorem ne21 : i2 ≠ i1 := fun e => absurd h.h12 (by rw [e]; exact lt_irrefl _)
theorem ne32 : i3 ≠ i2 := fun e => absurd h.h23 (by rw [e]; exact lt_irrefl _)
theorem ne31 : i3 ≠ i1 := fun e => absurd (h.h12.trans h.h23) (by rw [e]; exact lt_irrefl _)
theorem round2 : ∀ a, a ≠ i2 → hide S i2 < hide S a := fun a ha => by
  rw [h.hide1]
  simp only [if_neg h.ne21]
  by_cases e1 : a = i1
  · rw [if_pos e1]; exact h.h23.trans h.fin
  rw [if_neg e1]
  by_cases e3 : a = i3
  · rw [e3]; exact h.h23
  exact h.h23.trans (h.rest a e1 ha e3)
theorem hide2 : hide (hide S) = fun a => if a = i2 then ⊤ else if a = i1 then ⊤ else S a := by
  have h1 := h.hide1
  funext a
  rw [show hide (hide S) a = if hide S a = low (hide S) then ⊤ else hide S a from rfl]
  simp only [eq_low_iff (hide S) i2 h.round2 a]
  rw [h1]
theorem round3 : ∀ a, a ≠ i3 → hide (hide S) i3 < hide (hide S) a := fun a ha => by
  rw [h.hide2]
  simp only [if_neg h.ne32, if_neg h.ne31]
  by_cases e2 : a = i2
  · rw [if_pos e2]; exact h.fin
  rw [if_neg e2]
  by_cases e1 : a = i1
  · rw [if_pos e1]; exact h.fin
  rw [if_neg e1]
  exact h.rest a e1 e2 ha
theorem low1 : low S = S i1 := low_eq S i1 h.round1
theorem low2 : low (hide S) = S i2 := by
  rw [low_eq _ i2 h.round2, h.hide1]; exact if_neg h.ne21
theorem low3 : low (hide (hide S)) = S i3 := by
  rw [low_eq _ i3 h.round3, h.hide2]; simp only [if_neg h.ne32, if_neg h.ne31]

theorem weights_eq (Q : EReal) (a : Fin 2048) : weights Q S a
    = if a = i3 then weight Q (S i3) else if a = i2 then weight Q (S i2) else if a = i1 then weight Q (S i1) else 0 := by
  unfold weights
  simp only [eq_low_iff _ i3 h.round3 a, eq_low_iff _ i2 h.round2 a, eq_low_iff _ i1 h.round1 a]
  rw [h.low1, h.low2, h.low3]
theorem total_eq (Q : EReal) : total Q S = weight Q (S i1) + weight Q (S i2) + weight Q (S i3) := by
  unfold total
  rw [h.low1, h.low2, h.low3]

/-- The weighted sum over all points is the one over the three. -/
theorem sum_weights (Q : EReal) (p : Fin 2048 → EReal) :
    ∑ a, p a * weights Q S a = p i1 * weight Q (S i1) + p i2 * weight Q (S i2) + p i3 * weight Q (S i3) := by
  have e : ∀ a, p a * weights Q S a = (if a = i1 then p i1 * weight Q (S i1) else 0) + (if a = i2 then p i2 * weight Q (S i2) else 0)
      + (if a = i3 then p i3 * weight Q (S i3) else 0) := fun a => by
    rw [h.weights_eq]
    by_cases e3 : a = i3
    · subst e3; simp [h.ne31, h.ne32]
    by_cases e2 : a = i2
    · subst e2; simp [h.ne21, e3]
    by_cases e1 : a = i1
    · subst e1; simp [e2, e3]
    simp [e1, e2, e3]
  simp only [e, Finset.sum_add_distrib, Finset.sum_ite_eq', Finset.mem_univ, if_true]
end Nearest

end Cert.Math
-- ==== Proof.Math.Distance.lean ====
/- The kernel's weight of a point, a reciprocal root, against the reciprocal of the distance; and which of two points is
   nearer, by the kernel's partial square distance and by the distance itself. -/
module

public import proofs.«01_k».proof.Proof.Math.Select

@[expose] public section

noncomputable section

namespace Cert.Math

open Idealize.ShloMosaic

/-- The smallest distance a reciprocal is taken at. -/
abbrev near : EReal := Ideal.ofBits .f32 0x2EDBE6FF#32

theorem tiny_val : tiny = ((9223372 / 9223372036854775808 : ℝ) : EReal) := by
  simp [Ideal.ofBits, Ideal.ieee]
  rw [← EReal.coe_mul]
  norm_num
theorem near_val : near = ((14411519 / 144115188075855872 : ℝ) : EReal) := by
  simp [Ideal.ofBits, Ideal.ieee]
  rw [← EReal.coe_mul]
  norm_num
theorem points_val : points = ((32768 : ℝ) : EReal) := by
  simp [Ideal.ofBits, Ideal.ieee]
  rw [← EReal.coe_mul]
  norm_num
theorem offset_val : offset = ((10995116 / 1099511627776 : ℝ) : EReal) := by
  simp [Ideal.ofBits, Ideal.ieee]
  rw [← EReal.coe_mul]
  norm_num

/-- The distance of the reference, over the square distance. -/
def distance (x : EReal) : EReal := Ideal.sqrt (max x tiny)

theorem sqrt_real {r : ℝ} (h : 0 ≤ r) : Ideal.sqrt (r : EReal) = (Real.sqrt r : EReal) := if_neg h.not_gt
theorem rsqrt_real {r : ℝ} (h : 0 < r) : Ideal.rsqrt (r : EReal) = ((Real.sqrt r)⁻¹ : ℝ) :=
  (if_neg h.not_gt).trans (if_neg h.ne')
theorem div_real {x y : ℝ} (h : y ≠ 0) : Ideal.div (x : EReal) (y : EReal) = ((x / y : ℝ) : EReal) := by
  unfold Ideal.div
  rw [if_neg (by exact_mod_cast h), div_eq_mul_inv, EReal.coe_mul, EReal.coe_inv]

/-- A square distance cut below is a positive real or infinite. -/
theorem cut_cases (x : EReal) : max x tiny = ⊤ ∨ ∃ r : ℝ, (9223372 / 9223372036854775808 : ℝ) ≤ r ∧ max x tiny = (r : EReal) := by
  have h : tiny ≤ max x tiny := le_max_right _ _
  rw [tiny_val] at h ⊢
  generalize max x _ = y at h
  induction y using EReal.rec with
  | bot => exact absurd h (by simp)
  | top => exact Or.inl rfl
  | coe r => exact Or.inr ⟨r, by exact_mod_cast h, rfl⟩
theorem distance_mono {x y : EReal} (h : x ≤ y) : distance x ≤ distance y := by
  have hm : max x tiny ≤ max y tiny := max_le_max h le_rfl
  unfold distance
  rcases cut_cases x with e | ⟨r, hr, e⟩ <;> rcases cut_cases y with e' | ⟨r', hr', e'⟩ <;> rw [e, e'] at hm ⊢
  · exact absurd (top_le_iff.mp hm) (EReal.coe_ne_top _)
  · exact le_top
  · have hr0 : (0 : ℝ) ≤ r := le_trans (by norm_num) hr
    have hr0' : (0 : ℝ) ≤ r' := le_trans (by norm_num) hr'
    rw [sqrt_real hr0, sqrt_real hr0']
    exact_mod_cast Real.sqrt_le_sqrt (by exact_mod_cast hm)
/-- What is strictly nearer has the smaller square distance. -/
theorem lt_of_distance {x y : EReal} (h : distance x < distance y) : x < y :=
  lt_of_not_ge fun h' => absurd (distance_mono h') h.not_ge
/-- A distance below another one is a real, at least one millionth of a unit less a little. -/
theorem distance_real {x y : EReal} (h : distance x < distance y) :
    ∃ r : ℝ, 0 < r ∧ max x tiny = (r : EReal) ∧ distance x = (Real.sqrt r : EReal) ∧ near < distance x := by
  rcases cut_cases x with e | ⟨r, hr, e⟩
  · unfold distance at h
    rw [e] at h
    exact absurd h (not_lt.mpr le_top)
  · have hr0 : (0 : ℝ) < r := lt_of_lt_of_le (by norm_num) hr
    have hd : distance x = (Real.sqrt r : EReal) := by unfold distance; rw [e, sqrt_real hr0.le]
    refine ⟨r, hr0, e, hd, ?_⟩
    rw [hd, near_val]
    refine EReal.coe_lt_coe_iff.mpr (Real.lt_sqrt_of_sq_lt (lt_of_lt_of_le ?_ hr))
    norm_num

/-- The weight of such a point: the reciprocal of its distance, a positive real. -/
theorem weight_eq {s Q y : EReal} (h : distance (s + Q) < distance y) :
    ∃ r : ℝ, 0 < r ∧ weight Q s = (r : EReal) ∧ Ideal.div 1 (max (distance (s + Q)) near) = (r : EReal) := by
  obtain ⟨r, hr, e, hd, hn⟩ := distance_real h
  have hs : 0 < Real.sqrt r := Real.sqrt_pos.mpr hr
  refine ⟨(Real.sqrt r)⁻¹, inv_pos.mpr hs, ?_, ?_⟩
  · unfold weight; rw [e, rsqrt_real hr]
  · rw [max_eq_left hn.le, hd, show (1 : EReal) = ((1 : ℝ) : EReal) from rfl, div_real hs.ne', one_div]

/-- The square distance of the reference is the kernel's partial one with the query point's own square. -/
theorem square_distance (Q k d : EReal) : Q + k - two * d = k - two * d + Q := by
  rw [sub_eq_add_neg, sub_eq_add_neg, add_assoc, add_comm Q]

end Cert.Math
-- ==== Proof.Math.Batch.lean ====
/- Normalising a channel: by its sum and sum of squares, as the kernel does, and by its mean and the mean square of what is
   left, as the reference does. A constant added to the channel changes nothing. -/
module

public import proofs.«01_k».proof.Proof.Math.Distance
public import proofs.«01_k».proof.Proof.Math.Network

@[expose] public section

noncomputable section

namespace Cert.Math

open Idealize.ShloMosaic

/-- A channel's mean, -/
def mean (X : Fin 4 → Fin 8192 → EReal) : EReal := Ideal.div (∑ b, ∑ n, X b n) points
/-- its variance, -/
def variance (X : Fin 4 → Fin 8192 → EReal) : EReal := Ideal.div (∑ b, ∑ n, (X b n - mean X) * (X b n - mean X)) points
/-- and the channel normalised by the two. -/
def batch (X : Fin 4 → Fin 8192 → EReal) (g β : EReal) (b : Fin 4) (n : Fin 8192) : EReal :=
  max (Ideal.div (g * (X b n - mean X)) (Ideal.sqrt (variance X + offset)) + β) 0

theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, EReal.coe_add, ih]
theorem coe_sums (f : Fin 4 → Fin 8192 → ℝ) : ∑ b, ∑ n, ((f b n : ℝ) : EReal) = ((∑ b, ∑ n, f b n : ℝ) : EReal) := by
  simp only [coe_sum]

variable (y : Fin 4 → Fin 8192 → ℝ)

/-- The mean of the reals, -/
def realMean : ℝ := (∑ b, ∑ n, y b n) / 32768
/-- the variance. -/
def realVariance : ℝ := (∑ b, ∑ n, (y b n - realMean y) * (y b n - realMean y)) / 32768

theorem variance_nonneg : 0 ≤ realVariance y :=
  div_nonneg (Finset.sum_nonneg fun b _ => Finset.sum_nonneg fun n _ => mul_self_nonneg _) (by norm_num)
theorem sum_const (r : ℝ) : ∑ _b : Fin 4, ∑ _n : Fin 8192, r = 32768 * r := by
  simp only [Finset.sum_const, Finset.card_univ, Fintype.card_fin, nsmul_eq_mul]
  push_cast
  ring
/-- The mean square less the squared mean. -/
theorem variance_eq : (∑ b, ∑ n, y b n * y b n) / 32768 - realMean y * realMean y = realVariance y := by
  have e : ∀ b n, (y b n - realMean y) * (y b n - realMean y) = y b n * y b n - 2 * realMean y * y b n + realMean y * realMean y :=
    fun b n => by ring
  unfold realVariance
  simp only [e, Finset.sum_add_distrib, Finset.sum_sub_distrib, ← Finset.mul_sum, sum_const]
  have hm : ∑ b, ∑ n, y b n = 32768 * realMean y := by unfold realMean; ring
  rw [hm]
  ring

/-- What the normalised channel is, over reals. -/
def scaled (g : ℝ) (b : Fin 4) (n : Fin 8192) : ℝ :=
  g * (y b n - realMean y) / Real.sqrt (realVariance y + 10995116 / 1099511627776)

theorem channel_real (g : ℝ) (β : EReal) (b : Fin 4) (n : Fin 8192) :
    channel (fun b n => (y b n : EReal)) g β b n = max ((scaled y g b n : EReal) + β) 0 := by
  have hv : 0 < realVariance y + 10995116 / 1099511627776 := add_pos_of_nonneg_of_pos (variance_nonneg y) (by norm_num)
  have hs : Real.sqrt (realVariance y + 10995116 / 1099511627776) ≠ 0 := (Real.sqrt_pos.mpr hv).ne'
  unfold channel normed
  simp only [← EReal.coe_mul, coe_sums]
  rw [points_val, offset_val, div_real (by norm_num), div_real (by norm_num)]
  rw [show (∑ b, ∑ n, y b n) / 32768 = realMean y from rfl]
  simp only [← EReal.coe_mul, ← EReal.coe_sub, ← EReal.coe_add]
  rw [variance_eq, rsqrt_real hv]
  simp only [← EReal.coe_mul]
  rw [sub_eq_add_neg β, add_comm β, ← add_assoc, ← EReal.coe_neg, ← EReal.coe_add]
  refine congrArg (fun z : ℝ => max ((z : EReal) + β) 0) ?_
  unfold scaled
  field_simp
  ring

theorem batch_real (r g : ℝ) (β : EReal) (b : Fin 4) (n : Fin 8192) :
    batch (fun b n => (y b n : EReal) + (r : EReal)) g β b n = max ((scaled y g b n : EReal) + β) 0 := by
  have hv : 0 < realVariance y + 10995116 / 1099511627776 := add_pos_of_nonneg_of_pos (variance_nonneg y) (by norm_num)
  have hs : Real.sqrt (realVariance y + 10995116 / 1099511627776) ≠ 0 := (Real.sqrt_pos.mpr hv).ne'
  have hm : mean (fun b n => (y b n : EReal) + (r : EReal)) = ((realMean y + r : ℝ) : EReal) := by
    unfold mean
    simp only [← EReal.coe_add, coe_sums]
    rw [points_val, div_real (by norm_num)]
    simp only [Finset.sum_add_distrib, sum_const]
    unfold realMean
    congr 1
    ring
  have hd : ∀ b n, (y b n : EReal) + (r : EReal) - ((realMean y + r : ℝ) : EReal) = ((y b n - realMean y : ℝ) : EReal) := fun b n => by
    rw [← EReal.coe_add, ← EReal.coe_sub]
    congr 1
    ring
  have hV : variance (fun b n => (y b n : EReal) + (r : EReal)) = (realVariance y : EReal) := by
    unfold variance
    rw [hm]
    simp only [hd, ← EReal.coe_mul, coe_sums]
    rw [points_val, div_real (by norm_num)]
    rfl
  unfold batch
  rw [hV, hm, hd, offset_val, ← EReal.coe_mul, ← EReal.coe_add, sqrt_real hv.le, div_real hs]
  rfl

/-- The two ways agree on a channel of reals. -/
theorem channel_eq_batch (Y : Fin 4 → Fin 8192 → EReal) (hY : ∀ b n, ∃ x : ℝ, Y b n = (x : EReal)) (r g β : EReal)
    (hr : ∃ x : ℝ, r = (x : EReal)) (hg : ∃ x : ℝ, g = (x : EReal)) (b : Fin 4) (n : Fin 8192) :
    channel Y g β b n = batch (fun b n => Y b n + r) g β b n := by
  choose y hy using hY
  obtain ⟨r, rfl⟩ := hr
  obtain ⟨g, rfl⟩ := hg
  obtain rfl : Y = fun b n => (y b n : EReal) := by funext b n; exact hy b n
  rw [channel_real, batch_real]
/-- A normalised channel is one of reals. -/
theorem channel_is_real (Y : Fin 4 → Fin 8192 → EReal) (hY : ∀ b n, ∃ x : ℝ, Y b n = (x : EReal)) (g β : EReal)
    (hg : ∃ x : ℝ, g = (x : EReal)) (hβ : ∃ x : ℝ, β = (x : EReal)) (b : Fin 4) (n : Fin 8192) :
    ∃ x : ℝ, channel Y g β b n = (x : EReal) := by
  choose y hy using hY
  obtain ⟨g, rfl⟩ := hg
  obtain ⟨β, rfl⟩ := hβ
  obtain rfl : Y = fun b n => (y b n : EReal) := by funext b n; exact hy b n
  refine ⟨max (scaled y g b n + β) 0, ?_⟩
  rw [channel_real, ← EReal.coe_add, ← EReal.coe_zero]
  exact (EReal.coe_strictMono.monotone.map_max).symm

end Cert.Math
-- ==== Proof.Value.Reference.lean ====
/- The reference's arrays, read at an index. -/
module

public import proofs.«01_k».proof.Proof.Value.Pick
public import proofs.«01_k».proof.Proof.Value.Choice
public import proofs.«01_k».proof.Proof.Math.Batch

@[expose] public section

set_option maxRecDepth 16384

noncomputable section

namespace Cert.ReferenceIdeal.Value

open Idealize.ShloMosaic Idealize.ShloMosaic.TcCoe Idealize.SL.Sem
open Cert.ReferenceIdeal Cert.ReferenceIdeal.Gen
open Cert.Math

theorem sqrt_at {s : Shape} (x : FVec Ideal s .f32) (i : s.Idx) : Host.sqrt x i = Ideal.sqrt (x i) := (rfl)
theorem negf_at {s : Shape} (x : FVec Ideal s .f32) (i : s.Idx) : Host.negf x i = -(x i) := (rfl)

variable (V0 : Valuation τ sig (Elt Ideal))

/-- The arguments by coordinates. -/
def inputs : Inputs where
  x1 b n d := (V0 (Proc.devRef .tc main_arg0) : FVec Ideal S4x8192x3 .f32) (ix3 b n d)
  x2 b a d := (V0 (Proc.devRef .tc main_arg1) : FVec Ideal S4x2048x3 .f32) (ix3 b a d)
  p1 b k n := (V0 (Proc.devRef .tc main_arg2) : FVec Ideal S4x64x8192 .f32) (ix3 b k n)
  p2 b k a := (V0 (Proc.devRef .tc main_arg3) : FVec Ideal S4x128x2048 .f32) (ix3 b k a)
  w0 o k := (V0 (Proc.devRef .tc main_arg4) : FVec Ideal S128x192 .f32) (ix2 o k)
  g0 o := (V0 (Proc.devRef .tc main_arg6) : FVec Ideal S128 .f32) (ix1 o)
  β0 o := (V0 (Proc.devRef .tc main_arg7) : FVec Ideal S128 .f32) (ix1 o)
  w1 o k := (V0 (Proc.devRef .tc main_arg8) : FVec Ideal S128x128 .f32) (ix2 o k)
  g1 o := (V0 (Proc.devRef .tc main_arg10) : FVec Ideal S128 .f32) (ix1 o)
  β1 o := (V0 (Proc.devRef .tc main_arg11) : FVec Ideal S128 .f32) (ix1 o)
/-- The two bias vectors. -/
def bias0 (o : Fin 128) : EReal := (V0 (Proc.devRef .tc main_arg5) : FVec Ideal S128 .f32) (ix1 o)
def bias1 (o : Fin 128) : EReal := (V0 (Proc.devRef .tc main_arg9) : FVec Ideal S128 .f32) (ix1 o)

/-- The square distance of a query point from a known point. -/
theorem square_at (b : Fin 4) (n : Fin 8192) (a : Fin 2048) (x1 : FVec Ideal S4x8192x3 .f32) (x2 : FVec Ideal S4x2048x3 .f32) (e : BitVec 32) :
    (subf (addf (broadcastInDim S4x8192x2048 ![0, 1, 2] bcast_S4x8192x1_S4x8192x2048_0_1_2 (broadcastInDim S4x8192x1 ![0, 1] bcast_S4x8192_S4x8192x1_0_1 (Host.reduceAdd (mulf x1 x1) (constant S_ .f32 0x00000000#32) reducesTo_S4x8192x3_S4x8192_d2 h_S_))) (broadcastInDim S4x8192x2048 ![0, 1, 2] bcast_S4x1x2048_S4x8192x2048_0_1_2 (broadcastInDim S4x1x2048 ![0, 2] bcast_S4x2048_S4x1x2048_0_2 (Host.reduceAdd (mulf x2 x2) (constant S_ .f32 0x00000000#32) reducesTo_S4x2048x3_S4x2048_d2 h_S_)))) (mulf (broadcastInDim S4x8192x2048 ![] bcast_S_S4x8192x2048 (constant S_ .f32 e)) (Host.dotGeneral dot_S4x8192x3_S4x2048x3_S4x8192x2048_2_2_1_1_0_0 none x1 x2)) : FVec Ideal S4x8192x2048 .f32) (ix3 b n a)
      = (∑ d : Fin 3, x1 (ix3 b n d) * x1 (ix3 b n d)) + (∑ d : Fin 3, x2 (ix3 b a d) * x2 (ix3 b a d))
        - Ideal.ofBits .f32 e * ∑ d : Fin 3, x1 (ix3 b n d) * x2 (ix3 b a d) := by
  pointwise

/-- The distance. -/
theorem distance_at (b : Fin 4) (n : Fin 8192) (a : Fin 2048) : (res_main_v15 (F := Ideal) V0 (ix3 b n a) : EReal)
    = distance (partial2 ((inputs V0).x1 b n) (fun d a => (inputs V0).x2 b a d) a + square ((inputs V0).x1 b n)) := by
  unfold res_main_v15
  rw [sqrt_at, ValueIdx.maximumf_apply, square_at]
  unfold distance partial2 square
  rw [← square_distance]
  refine congrArg Ideal.sqrt (congrArg₂ max (congrArg₂ (fun x y : EReal => x - y) rfl (congrArg (fun z : EReal => two * z) ?_)) rfl)
  exact Finset.sum_congr rfl fun d _ => mul_comm _ _

/-- The two mixing layers. -/
abbrev out0 : FVec Ideal S4x128x8192 .f32 := res_main_v54 (F := Ideal) V0
abbrev out1 : FVec Ideal S4x128x8192 .f32 := res_main_v84 (F := Ideal) V0

/-- The normalised array a channel at a time: the mean, -/
theorem mean0_at (o : Fin 128) : (res_main_v58 (F := Ideal) V0 (ix3 0 o 0) : EReal)
    = mean (fun b n => out0 V0 (ix3 b o n)) := by
  unfold res_main_v58 mean out0
  generalize res_main_v54 (F := Ideal) V0 = X
  pointwise []
  rw [← sum_two X reducesTo_S4x128x8192_S128_d0_2]
theorem mean1_at (o : Fin 128) : (res_main_v88 (F := Ideal) V0 (ix3 0 o 0) : EReal)
    = mean (fun b n => out1 V0 (ix3 b o n)) := by
  unfold res_main_v88 mean out1
  generalize res_main_v84 (F := Ideal) V0 = X
  pointwise []
  rw [← sum_two X reducesTo_S4x128x8192_S128_d0_2]
/-- what is left of the array once it is taken away, -/
theorem left0_at (b : Fin 4) (o : Fin 128) (n : Fin 8192) : (res_main_v60 (F := Ideal) V0 (ix3 b o n) : EReal)
    = out0 V0 (ix3 b o n)
      - mean (fun b n => out0 V0 (ix3 b o n)) := by
  rw [← mean0_at]
  unfold res_main_v60 out0
  generalize res_main_v54 (F := Ideal) V0 = X
  generalize res_main_v58 (F := Ideal) V0 = Y
  pointwise
theorem left1_at (b : Fin 4) (o : Fin 128) (n : Fin 8192) : (res_main_v90 (F := Ideal) V0 (ix3 b o n) : EReal)
    = out1 V0 (ix3 b o n)
      - mean (fun b n => out1 V0 (ix3 b o n)) := by
  rw [← mean1_at]
  unfold res_main_v90 out1
  generalize res_main_v84 (F := Ideal) V0 = X
  generalize res_main_v88 (F := Ideal) V0 = Y
  pointwise
/-- and the array normalised, from its mean and what is left of it. -/
theorem normal_at (X Z : FVec Ideal S4x128x8192 .f32) (Y : FVec Ideal S1x128x1 .f32) (g β : FVec Ideal S128 .f32) (b : Fin 4) (o : Fin 128) (n : Fin 8192)
    (hY : Y (ix3 0 o 0) = mean (fun b n => X (ix3 b o n))) (hZ : ∀ b n, Z (ix3 b o n) = X (ix3 b o n) - mean (fun b n => X (ix3 b o n))) :
    (maximumf (addf (Host.divf (mulf (broadcastInDim S4x128x8192 ![0, 1, 2] bcast_S1x128x1_S4x128x8192_0_1_2 (broadcastInDim S1x128x1 ![1] bcast_S128_S1x128x1_1 g)) (subf X (broadcastInDim S4x128x8192 ![0, 1, 2] bcast_S1x128x1_S4x128x8192_0_1_2 Y))) (broadcastInDim S4x128x8192 ![0, 1, 2] bcast_S1x128x1_S4x128x8192_0_1_2 (Host.sqrt (addf (Host.divf (broadcastInDim S1x128x1 ![1] bcast_S128_S1x128x1_1 (Host.reduceAdd (mulf Z Z) (constant S_ .f32 0x00000000#32) reducesTo_S4x128x8192_S128_d0_2 h_S_)) (broadcastInDim S1x128x1 ![] bcast_S_S1x128x1 (constant S_ .f32 0x47000000#32))) (broadcastInDim S1x128x1 ![] bcast_S_S1x128x1 (constant S_ .f32 0x3727C5AC#32)))))) (broadcastInDim S4x128x8192 ![0, 1, 2] bcast_S1x128x1_S4x128x8192_0_1_2 (broadcastInDim S1x128x1 ![1] bcast_S128_S1x128x1_1 β))) (broadcastInDim S4x128x8192 ![] bcast_S_S4x128x8192 (constant S_ .f32 0x00000000#32)) : FVec Ideal S4x128x8192 .f32) (ix3 b o n)
      = batch (fun b n => X (ix3 b o n)) (g (ix1 o)) (β (ix1 o)) b n := by
  have hV : variance (fun b n => X (ix3 b o n)) = Ideal.div (Ideal.hostReduceAdd reducesTo_S4x128x8192_S128_d0_2 (mulf Z Z) 0 (ix1 o)) points := by
    unfold variance
    rw [sum_two (mulf Z Z) reducesTo_S4x128x8192_S128_d0_2 o]
    simp only [← hZ]
    rfl
  unfold batch
  rw [hV, ← hY]
  pointwise

end Cert.ReferenceIdeal.Value
-- ==== Proof.Value.ReferenceB.lean ====
/- The reference's mixing layers and its result, read at an index. -/
module

public import proofs.«01_k».proof.Proof.Value.Reference

@[expose] public section

set_option maxRecDepth 16384

noncomputable section

namespace Cert.ReferenceIdeal.Value

open Idealize.ShloMosaic Idealize.ShloMosaic.TcCoe Idealize.SL.Sem
open Cert.ReferenceIdeal Cert.ReferenceIdeal.Gen
open Cert.Math

variable (V0 : Valuation τ sig (Elt Ideal))

/-- A chosen place is inside the row. -/
theorem not_below : ∀ i : Fin 2048, IntOp.cmpi .slt (BitVec.ofNat 32 i.val) 0#32 = 0#1 := by decide +kernel
theorem inside : ∀ i : Fin 2048, IntOp.andi (IntOp.andi (IntOp.cmpi .sge (BitVec.ofNat 32 i.val) 0#32)
    (IntOp.cmpi .sle (BitVec.ofNat 32 i.val) 2047#32)) 1#1 = 1#1 := by decide +kernel
theorem batch_not_below : ∀ b : Fin 4, IntOp.cmpi .slt (BitVec.ofNat 32 b.val) 0#32 = 0#1 := by decide +kernel

/-- The place chosen for a query point. -/
def chosen (b : Fin 4) (n : Fin 8192) (k : Fin 3) : Fin 2048 :=
  Choice.place (Choice.row (res_main_v16 (F := Ideal) V0) b n) ⟨k.val, by omega⟩
theorem indices_at (b : Fin 4) (n : Fin 8192) (k : Fin 3) :
    (res_main_indices (F := Ideal) V0 (ix3 b n k) : BitVec 32) = BitVec.ofNat 32 (chosen V0 b n k).val := by
  unfold res_main_indices chosen
  exact Choice.three_index _ _ b n k
/-- The choice where a negative place is counted from the end: no place is negative. -/
theorem wrap (I : IVec S4x8192x3 32) (b : Fin 4) (n : Fin 8192) (k : Fin 3) (i : Fin 2048) (h : I (ix3 b n k) = BitVec.ofNat 32 i.val) :
    (select (cmpi .slt I (broadcastInDim S4x8192x3 ![] bcast_S_S4x8192x3 (constantI S_ 32 0#32))) (addi I (broadcastInDim S4x8192x3 ![] bcast_S_S4x8192x3 (constantI S_ 32 2048#32))) I) (ix3 b n k)
      = BitVec.ofNat 32 i.val := by
  pointwise
  rw [h, not_below]
  rfl
theorem picked_at (b : Fin 4) (n : Fin 8192) (k : Fin 3) :
    (res_main_call0_v5 (F := Ideal) V0 : IVec S4x8192x3x1 32) (ix4 b n k 0) = BitVec.ofNat 32 (chosen V0 b n k).val := by
  have h := wrap (res_main_indices (F := Ideal) V0) b n k _ (indices_at V0 b n k)
  unfold res_main_call0_v5
  generalize select _ _ _ = J at h ⊢
  pointwise
  exact h

theorem fibre (h : S4x8192x3x1.ReducesTo [3] S4x8192x3) (b : Fin 4) (n : Fin 8192) (k : Fin 3)
    [DecidablePred fun i : S4x8192x3x1.Idx => h.drop i = ix3 b n k] :
    (Finset.univ.filter fun i : S4x8192x3x1.Idx => h.drop i = ix3 b n k) = {ix4 b n k 0} := by
  ext i
  rw [Finset.mem_filter, Finset.mem_singleton]
  constructor
  · intro hi
    have e : ∀ a : Fin 3, (h.drop i a).val = ((ix3 b n k : S4x8192x3.Idx) a).val := fun a => congrArg (fun z : S4x8192x3.Idx => (z a).val) hi.2
    funext a
    match a with
    | ⟨0, _⟩ => exact Fin.ext (e 0)
    | ⟨1, _⟩ => exact Fin.ext (e 1)
    | ⟨2, _⟩ => exact Fin.ext (e 2)
    | ⟨3, _⟩ => exact Subsingleton.elim (α := Fin 1) _ _
  · intro hi
    rw [hi]
    refine ⟨Finset.mem_univ _, ?_⟩
    funext a
    match a with
    | ⟨0, _⟩ => rfl
    | ⟨1, _⟩ => rfl
    | ⟨2, _⟩ => rfl

/-- The reciprocal distance of a chosen point. -/
theorem reciprocal_at (b : Fin 4) (n : Fin 8192) (k : Fin 3) : (res_main_v21 (F := Ideal) V0 (ix3 b n k) : EReal)
    = Ideal.div 1 (max ((res_main_v15 (F := Ideal) V0 : FVec Ideal S4x8192x2048 .f32) (ix3 b n (chosen V0 b n k))) near) := by
  have h := picked_at V0 b n k
  unfold res_main_v21 near
  generalize res_main_v15 (F := Ideal) V0 = X
  generalize res_main_call0_v5 (F := Ideal) V0 = I at h ⊢
  generalize 0x2EDBE6FF#32 = e1
  have hg := pick_row X I b n k _ h
  generalize Host.gather _ X I = G at hg ⊢
  pointwise []
  generalize hs : @Finset.filter S4x8192x3x1.Idx (fun i => Shape.ReducesTo.drop reducesTo_S4x8192x3x1_S4x8192x3_d3 i = ix3 b n k) (fun _ => _) Finset.univ = s
  have e : s = {ix4 b n k 0} := hs.symm.trans (fibre reducesTo_S4x8192x3x1_S4x8192x3_d3 b n k)
  rw [e, Finset.fold_singleton, h, inside, hg]
  rfl

/-- The first mixing layer over the picked features and the reciprocal distances. -/
theorem out0_read (b : Fin 4) (o : Fin 128) (n : Fin 8192) : (out0 V0 (ix3 b o n) : EReal)
    = (∑ k : Fin 64, (inputs V0).w0 o ⟨k.val, by omega⟩ * (inputs V0).p1 b k n)
      + (∑ c : Fin 128, (inputs V0).w0 o ⟨64 + c.val, by omega⟩ * ∑ k : Fin 3, (inputs V0).p2 b c (chosen V0 b n k)
          * Ideal.div (res_main_v21 (F := Ideal) V0 (ix3 b n k) : EReal) (∑ k : Fin 3, (res_main_v21 (F := Ideal) V0 (ix3 b n k) : EReal)))
      + bias0 V0 o := by
  have hw : ∀ k, _ := fun k => wrap (res_main_indices (F := Ideal) V0) b n k _ (indices_at V0 b n k)
  have hb : ∀ b : Fin 4, (select (cmpi .slt (res_main_v28 (F := Ideal) V0) (broadcastInDim S4x1x1 ![] bcast_S_S4x1x1 (constantI S_ 32 0#32))) (addi (res_main_v28 (F := Ideal) V0) (broadcastInDim S4x1x1 ![] bcast_S_S4x1x1 (constantI S_ 32 4#32))) (res_main_v28 (F := Ideal) V0) : IVec S4x1x1 32) (ix3 b 0 0) = BitVec.ofNat 32 b.val := fun b => by
    unfold res_main_v28
    pointwise
    rw [batch_not_below]
    rfl
  unfold out0 res_main_v54
  generalize res_main_v21 (F := Ideal) V0 = X
  generalize select (cmpi .slt (res_main_indices (F := Ideal) V0) _) _ _ = J at hw ⊢
  generalize select (cmpi .slt (res_main_v28 (F := Ideal) V0) _) _ _ = B at hb ⊢
  generalize hI : concatenate S4x8192x3x2 3 _ _ = I
  have hI0 : ∀ k, I (ix4 b n k 0) = BitVec.ofNat 32 b.val := fun k => by
    rw [← hI]
    pointwise
    exact hb b
  have hI1 : ∀ k, I (ix4 b n k 1) = BitVec.ofNat 32 (chosen V0 b n k).val := fun k => by
    rw [← hI]
    pointwise
    exact hw k
  generalize hG : Host.gather _ _ I = G
  have hg : ∀ (k : Fin 3) (c : Fin 128), G (ix4 b n k c) = (inputs V0).p2 b c (chosen V0 b n k) := fun k c => by
    rw [← hG, pick_feature _ _ b n k c _ (hI0 k) (hI1 k)]
    pointwise
    rfl
  pointwise []
  simp only [hg]
  exact congrArg₂ (fun x y : EReal => x + y) (congrArg₂ (fun x y : EReal => x + y)
    (Finset.sum_congr rfl fun k _ => mul_comm _ _) (Finset.sum_congr rfl fun k _ => mul_comm _ _)) rfl

/-- The second mixing layer over the first, normalised. -/
theorem out1_read (b : Fin 4) (o : Fin 128) (n : Fin 8192) : (out1 V0 (ix3 b o n) : EReal)
    = (∑ k : Fin 128, (inputs V0).w1 o k * batch (fun b n => out0 V0 (ix3 b k n)) ((inputs V0).g0 k) ((inputs V0).β0 k) b n)
      + bias1 V0 o := by
  have h : ∀ k : Fin 128, _ := fun k => normal_at (out0 V0) (res_main_v60 (F := Ideal) V0) (res_main_v58 (F := Ideal) V0)
    (V0 (Proc.devRef .tc main_arg6)) (V0 (Proc.devRef .tc main_arg7)) b k n (mean0_at V0 k) (fun b n => left0_at V0 b k n)
  unfold out1 res_main_v84
  generalize (maximumf (F := Ideal) (φ := .f32) _ _ : FVec Ideal S4x128x8192 .f32) = M at h ⊢
  pointwise []
  simp only [h]
  exact congrArg₂ (fun x y : EReal => x + y) (Finset.sum_congr rfl fun k _ => mul_comm _ _) rfl

end Cert.ReferenceIdeal.Value
-- ==== Proof.Value.Given.lean ====
/- What the precondition says of the reference's arguments, by coordinates. -/
module

public import proofs.«01_k».proof.Pre_apart_and_finite
public import proofs.«01_k».proof.Proof.Value.ReferenceB

@[expose] public section

set_option maxRecDepth 16384

/-- The shape relations the precondition's operations take. -/
instance Cert.Proof.preFacts : Cert.Pre_apart_and_finite.Facts where
  reducesTo_S4x8192x3_S4x8192_d2 := by decide
  h_S_ := by decide
  bcast_S4x8192_S4x8192x1_0_1 := by decide
  reducesTo_S4x2048x3_S4x2048_d2 := by decide
  bcast_S4x2048_S4x1x2048_0_2 := by decide
  bcast_S4x8192x1_S4x8192x2048_0_1_2 := by decide
  bcast_S4x1x2048_S4x8192x2048_0_1_2 := by decide
  bcast_S_S4x8192x2048 := by decide
  sliceFits_S4x8192x2048_S4x8192x4 := by decide
  slices_S4x8192x4_S4x8192x3_0_0_0 := by decide
  slices_S4x8192x4_S4x8192x3_0_0_1 := by decide
  bcast_S_S4x64x8192 := by decide
  bcast_S_S4x128x2048 := by decide
  bcast_S_S128x192 := by decide
  bcast_S_S128 := by decide
  bcast_S_S128x128 := by decide
  dot_S4x8192x3_S4x2048x3_S4x8192x2048_2_2_1_1_0_0_wf := by decide

noncomputable section

namespace Cert.ReferenceIdeal.Value

open Idealize.ShloMosaic Idealize.ShloMosaic.TcCoe Idealize.SL.Sem
open Cert.ReferenceIdeal Cert.ReferenceIdeal.Gen
open Cert.Math

/-- A value whose magnitude is below infinity is a real. -/
theorem real_of_below (x : EReal) (h : Ideal.cmp .olt (max x (-x)) ⊤ = 1#1) : ∃ r : ℝ, x = (r : EReal) := by
  have hlt : max x (-x) < ⊤ := by
    unfold Ideal.cmp at h
    by_contra hn
    simp [hn] at h
  induction x with
  | bot => simp at hlt
  | top => simp at hlt
  | coe r => exact ⟨r, rfl⟩
theorem finite_of {s : Shape} (x : FVec Ideal s .f32) (hb : S_.BroadcastsInDim s (![] : Fin 0 → Fin s.rank))
    (h : cmpf .olt (Host.absf x) (broadcastInDim s ![] hb (constant S_ .f32 0x7F800000#32)) = fun _ => 1#1) (i : s.Idx) :
    ∃ r : ℝ, x i = (r : EReal) := by
  refine real_of_below (x i) ?_
  have h' := congrFun h i
  have e : Ideal.ofBits .f32 0x7F800000#32 = ⊤ := by simp [Ideal.ofBits, Ideal.ieee]
  rw [← e]
  exact h'

/-- The four largest values of a row, each above the next. -/
theorem ordered_of (X : FVec Ideal S4x8192x2048 .f32) (hf : S4x8192x2048.Slices (fun _ => 0) Choice.Four)
    (h0 : Choice.Four.Slices ![0, 0, 0] S4x8192x3) (h1 : Choice.Four.Slices ![0, 0, 1] S4x8192x3)
    (h : cmpf .ogt (extractStridedSlice S4x8192x3 ![0, 0, 0] (Host.topK Choice.Four 2 (FloatOps.cmpfTotal .gt) X hf).1 h0)
      (extractStridedSlice S4x8192x3 ![0, 0, 1] (Host.topK Choice.Four 2 (FloatOps.cmpfTotal .gt) X hf).1 h1) = fun _ => 1#1)
    (b : Fin 4) (n : Fin 8192) (k : Fin 3) :
    Choice.row X b n (Choice.place (Choice.row X b n) ⟨k.val + 1, by omega⟩) < Choice.row X b n (Choice.place (Choice.row X b n) ⟨k.val, by omega⟩) := by
  have h' := congrFun h (ix3 b n k)
  have e0 := Choice.four_value X hf b n ⟨k.val, by omega⟩
  have e1 := Choice.four_value X hf b n ⟨k.val + 1, by omega⟩
  refine lt_of_lt_of_eq (lt_of_eq_of_lt e1.symm ?_) e0
  clear e0 e1
  generalize (Host.topK Choice.Four 2 (FloatOps.cmpfTotal .gt) X hf).1 = Y at h' ⊢
  have r0 : extractStridedSlice S4x8192x3 ![0, 0, 0] Y h0 (ix3 b n k) = Y (ix3 b n ⟨k.val, by omega⟩) := by
    refine congrArg Y (funext fun a => ?_)
    match a with
    | ⟨0, _⟩ => exact Fin.ext (Nat.zero_add _)
    | ⟨1, _⟩ => exact Fin.ext (Nat.zero_add _)
    | ⟨2, _⟩ => exact Fin.ext (Nat.zero_add _)
  have r1 : extractStridedSlice S4x8192x3 ![0, 0, 1] Y h1 (ix3 b n k) = Y (ix3 b n ⟨k.val + 1, by omega⟩) := by
    refine congrArg Y (funext fun a => ?_)
    match a with
    | ⟨0, _⟩ => exact Fin.ext (Nat.zero_add _)
    | ⟨1, _⟩ => exact Fin.ext (Nat.zero_add _)
    | ⟨2, _⟩ => exact Fin.ext (Nat.add_comm _ _)
  have hc : Ideal.cmp .ogt (Y (ix3 b n ⟨k.val, by omega⟩)) (Y (ix3 b n ⟨k.val + 1, by omega⟩)) = 1#1 := by
    rw [← r0, ← r1]
    exact h'
  unfold Ideal.cmp at hc
  by_contra hn
  simp [hn] at hc

variable (V0 : Valuation τ sig (Elt Ideal))

/-- What the precondition says: each of the four nearest points is nearer than the next, and the features, the weights, the
    biases, the scales and the first shift are reals. -/
structure Given : Prop where
  apart : ∀ (b : Fin 4) (n : Fin 8192) (k : Fin 3),
    Choice.row (res_main_v16 (F := Ideal) V0) b n (Choice.place (Choice.row (res_main_v16 (F := Ideal) V0) b n) ⟨k.val + 1, by omega⟩)
      < Choice.row (res_main_v16 (F := Ideal) V0) b n (Choice.place (Choice.row (res_main_v16 (F := Ideal) V0) b n) ⟨k.val, by omega⟩)
  p1 : ∀ b k n, ∃ r : ℝ, (inputs V0).p1 b k n = (r : EReal)
  p2 : ∀ b k a, ∃ r : ℝ, (inputs V0).p2 b k a = (r : EReal)
  w0 : ∀ o k, ∃ r : ℝ, (inputs V0).w0 o k = (r : EReal)
  b0 : ∀ o, ∃ r : ℝ, bias0 V0 o = (r : EReal)
  g0 : ∀ o, ∃ r : ℝ, (inputs V0).g0 o = (r : EReal)
  β0 : ∀ o, ∃ r : ℝ, (inputs V0).β0 o = (r : EReal)
  w1 : ∀ o k, ∃ r : ℝ, (inputs V0).w1 o k = (r : EReal)
  b1 : ∀ o, ∃ r : ℝ, bias1 V0 o = (r : EReal)
  g1 : ∀ o, ∃ r : ℝ, (inputs V0).g1 o = (r : EReal)

/-- The precondition's answer on the arguments. -/
abbrev answer :=
  Cert.Pre_apart_and_finite.fn (F := Ideal) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11))

theorem given_of (h : (answer V0).1 = (fun _ => 1#1) ∧ (answer V0).2.1 = (fun _ => 1#1) ∧ (answer V0).2.2.1 = (fun _ => 1#1)
    ∧ (answer V0).2.2.2.1 = (fun _ => 1#1) ∧ (answer V0).2.2.2.2.1 = (fun _ => 1#1) ∧ (answer V0).2.2.2.2.2.1 = (fun _ => 1#1)
    ∧ (answer V0).2.2.2.2.2.2.1 = (fun _ => 1#1) ∧ (answer V0).2.2.2.2.2.2.2.1 = (fun _ => 1#1)
    ∧ (answer V0).2.2.2.2.2.2.2.2.1 = (fun _ => 1#1) ∧ (answer V0).2.2.2.2.2.2.2.2.2 = (fun _ => 1#1)) : Given V0 := by
  obtain ⟨h0, h1, h2, h3, h4, h5, h6, h7, h8, h9⟩ := h
  exact {
    apart := fun b n k => ordered_of (res_main_v16 (F := Ideal) V0) (by decide) (by decide) (by decide) h0 b n k
    p1 := fun b k n => finite_of (V0 (Proc.devRef .tc main_arg2) : FVec Ideal S4x64x8192 .f32) (by decide) h1 (ix3 b k n)
    p2 := fun b k a => finite_of (V0 (Proc.devRef .tc main_arg3) : FVec Ideal S4x128x2048 .f32) (by decide) h2 (ix3 b k a)
    w0 := fun o k => finite_of (V0 (Proc.devRef .tc main_arg4) : FVec Ideal S128x192 .f32) (by decide) h3 (ix2 o k)
    b0 := fun o => finite_of (V0 (Proc.devRef .tc main_arg5) : FVec Ideal S128 .f32) (by decide) h4 (ix1 o)
    g0 := fun o => finite_of (V0 (Proc.devRef .tc main_arg6) : FVec Ideal S128 .f32) (by decide) h5 (ix1 o)
    β0 := fun o => finite_of (V0 (Proc.devRef .tc main_arg7) : FVec Ideal S128 .f32) (by decide) h6 (ix1 o)
    w1 := fun o k => finite_of (V0 (Proc.devRef .tc main_arg8) : FVec Ideal S128x128 .f32) (by decide) h7 (ix2 o k)
    b1 := fun o => finite_of (V0 (Proc.devRef .tc main_arg9) : FVec Ideal S128 .f32) (by decide) h8 (ix1 o)
    g1 := fun o => finite_of (V0 (Proc.devRef .tc main_arg10) : FVec Ideal S128 .f32) (by decide) h9 (ix1 o) }

end Cert.ReferenceIdeal.Value
-- ==== Proof.Math.Blend.lean ====
/- The features interpolated from the three nearest points: dividing the weighted sum by the weights' sum, as the kernel does,
   and dividing every weight by it first, as the reference does. -/
module

public import proofs.«01_k».proof.Proof.Math.Batch

@[expose] public section

noncomputable section

namespace Cert.Math

open Idealize.ShloMosaic

theorem blend_real {q : Fin 3 → EReal} {k : Fin 3 → Fin 2048 → EReal} {i : Fin 3 → Fin 2048}
    (h : Nearest (partial2 q k) (i 0) (i 1) (i 2)) (r : Fin 3 → ℝ) (hpos : ∀ j, 0 < r j)
    (hr : ∀ j, weight (square q) (partial2 q k (i j)) = (r j : EReal)) (p : Fin 128 → Fin 2048 → ℝ) (c : Fin 128) :
    blend q k (fun c a => (p c a : EReal)) c = ((∑ j, p c (i j) * (r j / ∑ j, r j) : ℝ) : EReal) := by
  have hs : 0 < r 0 + r 1 + r 2 := add_pos (add_pos (hpos 0) (hpos 1)) (hpos 2)
  unfold blend
  rw [h.sum_weights, h.total_eq, hr, hr, hr]
  simp only [← EReal.coe_mul, ← EReal.coe_add]
  rw [div_real hs.ne']
  congr 1
  simp only [Fin.sum_univ_three]
  field_simp

theorem parts_real (r x : Fin 3 → ℝ) (hpos : ∀ j, 0 < r j) :
    ∑ j, (x j : EReal) * Ideal.div (r j : EReal) (∑ j, (r j : EReal)) = ((∑ j, x j * (r j / ∑ j, r j) : ℝ) : EReal) := by
  have hs : 0 < ∑ j, r j := Finset.sum_pos (fun j _ => hpos j) ⟨0, Finset.mem_univ 0⟩
  rw [coe_sum]
  simp only [div_real hs.ne', ← EReal.coe_mul, coe_sum]

/-- The two ways agree, at reals; and what comes out is real. -/
theorem blend_eq {q : Fin 3 → EReal} {k : Fin 3 → Fin 2048 → EReal} {i : Fin 3 → Fin 2048}
    (h : Nearest (partial2 q k) (i 0) (i 1) (i 2)) (v : Fin 3 → EReal)
    (hv : ∀ j, ∃ r : ℝ, 0 < r ∧ weight (square q) (partial2 q k (i j)) = (r : EReal) ∧ v j = (r : EReal))
    (p : Fin 128 → Fin 2048 → EReal) (hp : ∀ c a, ∃ x : ℝ, p c a = (x : EReal)) (c : Fin 128) :
    blend q k p c = ∑ j, p c (i j) * Ideal.div (v j) (∑ j, v j) ∧ ∃ x : ℝ, blend q k p c = (x : EReal) := by
  choose r hpos hr hv using hv
  choose P hP using hp
  obtain rfl : p = fun c a => (P c a : EReal) := by funext c a; exact hP c a
  refine ⟨?_, _, blend_real h r hpos hr P c⟩
  simp only [hv]
  rw [blend_real h r hpos hr, parts_real r (fun j => P c (i j)) hpos]

/-- A mixing of reals is real. -/
theorem dot_real {n : Nat} (w f : Fin n → EReal) (hw : ∀ c, ∃ x : ℝ, w c = (x : EReal)) (hf : ∀ c, ∃ x : ℝ, f c = (x : EReal)) :
    ∃ x : ℝ, ∑ c, w c * f c = (x : EReal) := by
  choose w' hw using hw
  choose f' hf using hf
  exact ⟨∑ c, w' c * f' c, by simp only [hw, hf, ← EReal.coe_mul, coe_sum]⟩
theorem add_real {x y : EReal} (hx : ∃ r : ℝ, x = (r : EReal)) (hy : ∃ r : ℝ, y = (r : EReal)) : ∃ r : ℝ, x + y = (r : EReal) := by
  obtain ⟨x, rfl⟩ := hx
  obtain ⟨y, rfl⟩ := hy
  exact ⟨x + y, (EReal.coe_add x y).symm⟩

end Cert.Math
-- ==== Proof.Value.Equation.lean ====
/- The two programs compute the same values: what the reference returns is the kernel's formula of the arguments. -/
module

public import proofs.«01_k».proof.Proof.Value.Given
public import proofs.«01_k».proof.Proof.Math.Blend

@[expose] public section

set_option maxRecDepth 16384

noncomputable section

namespace Cert.ReferenceIdeal.Value

open Idealize.ShloMosaic Idealize.ShloMosaic.TcCoe Idealize.SL.Sem
open Cert.ReferenceIdeal Cert.ReferenceIdeal.Gen
open Cert.Math

variable {V0 : Valuation τ sig (Elt Ideal)} (G : Given V0)
include G

/-- The partial square distances of a query point's known points; -/
abbrev part (V0 : Valuation τ sig (Elt Ideal)) (b : Fin 4) (n : Fin 8192) : Fin 2048 → EReal :=
  partial2 ((inputs V0).x1 b n) (fun d a => (inputs V0).x2 b a d)
/-- the point at a place of the order; -/
abbrev spot (V0 : Valuation τ sig (Elt Ideal)) (b : Fin 4) (n : Fin 8192) (i : Fin 2048) : Fin 2048 :=
  Choice.place (Choice.row (res_main_v16 (F := Ideal) V0) b n) i

omit G in
/-- the sorted array holds the distances with their signs turned. -/
theorem row_at (b : Fin 4) (n : Fin 8192) (a : Fin 2048) : Choice.row (res_main_v16 (F := Ideal) V0) b n a
    = -distance (part V0 b n a + square ((inputs V0).x1 b n)) := by
  rw [← distance_at]
  unfold res_main_v16
  exact negf_at _ _

theorem apart_distance (b : Fin 4) (n : Fin 8192) (k : Fin 3) :
    distance (part V0 b n (spot V0 b n ⟨k.val, by omega⟩) + square ((inputs V0).x1 b n))
      < distance (part V0 b n (spot V0 b n ⟨k.val + 1, by omega⟩) + square ((inputs V0).x1 b n)) := by
  have h := G.apart b n k
  rw [row_at, row_at] at h
  exact EReal.neg_lt_neg_iff.mp h

omit G in
theorem part_lt {b : Fin 4} {n : Fin 8192} {a a' : Fin 2048}
    (h : distance (part V0 b n a + square ((inputs V0).x1 b n)) < distance (part V0 b n a' + square ((inputs V0).x1 b n))) :
    part V0 b n a < part V0 b n a' :=
  lt_of_not_ge fun hle => absurd (lt_of_distance h) (add_le_add hle le_rfl).not_gt

/-- The three chosen points are the three nearest. -/
theorem nearest (b : Fin 4) (n : Fin 8192) : Nearest (part V0 b n) (chosen V0 b n 0) (chosen V0 b n 1) (chosen V0 b n 2) where
  h12 := part_lt (apart_distance G b n 0)
  h23 := part_lt (apart_distance G b n 1)
  fin := lt_of_lt_of_le (part_lt (apart_distance G b n 2)) le_top
  rest := fun a h1 h2 h3 => by
    refine part_lt (lt_of_lt_of_le (apart_distance G b n 2) ?_)
    obtain ⟨j, rfl⟩ := Choice.place_surjective (Choice.row (res_main_v16 (F := Ideal) V0) b n) a
    have g1 : j.val ≠ 0 := fun e => h1 (congrArg (spot V0 b n) (Fin.ext e))
    have g2 : j.val ≠ 1 := fun e => h2 (congrArg (spot V0 b n) (Fin.ext e))
    have g3 : j.val ≠ 2 := fun e => h3 (congrArg (spot V0 b n) (Fin.ext e))
    by_cases e : j.val = 3
    · exact le_of_eq (congrArg (fun i => distance (part V0 b n (spot V0 b n i) + square ((inputs V0).x1 b n))) (Fin.ext e.symm))
    · have h := Choice.place_le (Choice.row (res_main_v16 (F := Ideal) V0) b n) ⟨3, by omega⟩ j (Fin.lt_def.mpr (by show 3 < j.val; omega))
      rw [row_at, row_at] at h
      exact EReal.neg_le_neg_iff.mp h

theorem weights_at (b : Fin 4) (n : Fin 8192) (k : Fin 3) : ∃ r : ℝ, 0 < r
    ∧ weight (square ((inputs V0).x1 b n)) (part V0 b n (chosen V0 b n k)) = (r : EReal)
    ∧ (res_main_v21 (F := Ideal) V0 (ix3 b n k) : EReal) = (r : EReal) := by
  rw [reciprocal_at, distance_at]
  exact weight_eq (apart_distance G b n k)

/-- The interpolated features. -/
theorem blend_at (b : Fin 4) (n : Fin 8192) (c : Fin 128) :
    blend ((inputs V0).x1 b n) (fun d a => (inputs V0).x2 b a d) ((inputs V0).p2 b) c
        = ∑ k : Fin 3, (inputs V0).p2 b c (chosen V0 b n k)
          * Ideal.div (res_main_v21 (F := Ideal) V0 (ix3 b n k) : EReal) (∑ k : Fin 3, (res_main_v21 (F := Ideal) V0 (ix3 b n k) : EReal))
      ∧ ∃ x : ℝ, blend ((inputs V0).x1 b n) (fun d a => (inputs V0).x2 b a d) ((inputs V0).p2 b) c = (x : EReal) :=
  blend_eq (i := chosen V0 b n) (nearest G b n) (fun k => (res_main_v21 (F := Ideal) V0 (ix3 b n k) : EReal)) (weights_at G b n)
    ((inputs V0).p2 b) (G.p2 b) c

/-- The first mixing layer is the kernel's with its bias, -/
theorem out0_eq (b : Fin 4) (o : Fin 128) (n : Fin 8192) : (out0 V0 (ix3 b o n) : EReal) = (inputs V0).layer0 b o n + bias0 V0 o := by
  rw [out0_read]
  unfold Inputs.layer0 mix
  simp only [fun c => (blend_at G b n c).1]
/-- a real; -/
theorem layer0_real (b : Fin 4) (o : Fin 128) (n : Fin 8192) : ∃ x : ℝ, (inputs V0).layer0 b o n = (x : EReal) :=
  add_real (dot_real _ _ (fun k => G.w0 o _) (fun k => G.p1 b k n)) (dot_real _ _ (fun c => G.w0 o _) (fun c => (blend_at G b n c).2))
theorem normal0_eq (b : Fin 4) (k : Fin 128) (n : Fin 8192) :
    batch (fun b n => (out0 V0 (ix3 b k n) : EReal)) ((inputs V0).g0 k) ((inputs V0).β0 k) b n = (inputs V0).normal0 b k n := by
  simp only [out0_eq G]
  exact (channel_eq_batch (fun b n => (inputs V0).layer0 b k n) (fun b n => layer0_real G b k n) (bias0 V0 k) _ _ (G.b0 k) (G.g0 k) b n).symm
theorem normal0_real (b : Fin 4) (k : Fin 128) (n : Fin 8192) : ∃ x : ℝ, (inputs V0).normal0 b k n = (x : EReal) :=
  channel_is_real _ (fun b n => layer0_real G b k n) _ _ (G.g0 k) (G.β0 k) b n
/-- so is the second, -/
theorem out1_eq (b : Fin 4) (o : Fin 128) (n : Fin 8192) : (out1 V0 (ix3 b o n) : EReal) = (inputs V0).layer1 b o n + bias1 V0 o := by
  rw [out1_read]
  unfold Inputs.layer1
  simp only [fun k => normal0_eq G b k n]
theorem layer1_real (b : Fin 4) (o : Fin 128) (n : Fin 8192) : ∃ x : ℝ, (inputs V0).layer1 b o n = (x : EReal) :=
  dot_real _ _ (fun k => G.w1 o k) (fun k => normal0_real G b k n)
theorem normal1_eq (b : Fin 4) (o : Fin 128) (n : Fin 8192) :
    batch (fun b n => (out1 V0 (ix3 b o n) : EReal)) ((inputs V0).g1 o) ((inputs V0).β1 o) b n = (inputs V0).normal1 b o n := by
  simp only [out1_eq G]
  exact (channel_eq_batch (fun b n => (inputs V0).layer1 b o n) (fun b n => layer1_real G b o n) (bias1 V0 o) _ _ (G.b1 o) (G.g1 o) b n).symm

end Cert.ReferenceIdeal.Value
-- ==== Proof.Algebraic.lean ====
/- The two programs end with the same result: on arguments the precondition holds of, the kernel's array and the reference's
   array are one array. -/
module

public import proofs.«01_k».proof.Defs
public import proofs.«01_k».proof.Proof.Value.Result
public import proofs.«01_k».proof.Proof.Value.Equation
public import proofs.«01_k».proof.Proof.Gen.ReferenceIdeal.Run

@[expose] public section

set_option maxRecDepth 16384

noncomputable section

namespace Cert.Proof

open Idealize.ShloMosaic Idealize.ShloMosaic.TcCoe Idealize.SL.Sem
open Cert.Math

/-- The array of the normalised second layer. -/
abbrev outcome (A : Inputs) : FVec Ideal Cert.ReferenceIdeal.S4x128x8192 .f32 := fun i => A.normal1 (i 0) (i 1) (i 2)

section
open Cert.ReferenceIdeal Cert.ReferenceIdeal.Gen Cert.ReferenceIdeal.Value

/-- What the reference returns. -/
theorem reference_result (L : Valuation τ sig (Elt Ideal)) (G : Given L) :
    (maximumf (addf (Host.divf (mulf (broadcastInDim S4x128x8192 ![0, 1, 2] bcast_S1x128x1_S4x128x8192_0_1_2 (broadcastInDim S1x128x1 ![1] bcast_S128_S1x128x1_1 (L (Proc.devRef .tc main_arg10)))) (subf (res_main_v84 L) (broadcastInDim S4x128x8192 ![0, 1, 2] bcast_S1x128x1_S4x128x8192_0_1_2 (res_main_v88 L)))) (broadcastInDim S4x128x8192 ![0, 1, 2] bcast_S1x128x1_S4x128x8192_0_1_2 (Host.sqrt (addf (Host.divf (broadcastInDim S1x128x1 ![1] bcast_S128_S1x128x1_1 (Host.reduceAdd (mulf (res_main_v90 L) (res_main_v90 L)) (constant S_ .f32 0x00000000#32) reducesTo_S4x128x8192_S128_d0_2 h_S_)) (broadcastInDim S1x128x1 ![] bcast_S_S1x128x1 (constant S_ .f32 0x47000000#32))) (broadcastInDim S1x128x1 ![] bcast_S_S1x128x1 (constant S_ .f32 0x3727C5AC#32)))))) (broadcastInDim S4x128x8192 ![0, 1, 2] bcast_S1x128x1_S4x128x8192_0_1_2 (broadcastInDim S1x128x1 ![1] bcast_S128_S1x128x1_1 (L (Proc.devRef .tc main_arg11))))) (broadcastInDim S4x128x8192 ![] bcast_S_S4x128x8192 (constant S_ .f32 0x00000000#32)) : FVec Ideal S4x128x8192 .f32)
      = outcome (Cert.ReferenceIdeal.Value.inputs L) := by
  funext i
  rw [ValueIdx.eq_ix3 i]
  exact (normal_at (out1 L) (res_main_v90 (F := Ideal) L) (res_main_v88 (F := Ideal) L) (L (Proc.devRef .tc main_arg10)) (L (Proc.devRef .tc main_arg11))
    (i 0) (i 1) (i 2) (mean1_at L (i 1)) (fun b n => left1_at L b (i 1) n)).trans (normal1_eq G (i 0) (i 1) (i 2))
end

/-- Equal arguments give equal coordinates, -/
theorem inputs_congr {x0 y0 : FVec Ideal Cert.Pre_apart_and_finite.S4x8192x3 .f32} {x1 y1 : FVec Ideal Cert.Pre_apart_and_finite.S4x2048x3 .f32} {x2 y2 : FVec Ideal Cert.Pre_apart_and_finite.S4x64x8192 .f32} {x3 y3 : FVec Ideal Cert.Pre_apart_and_finite.S4x128x2048 .f32} {x4 y4 : FVec Ideal Cert.Pre_apart_and_finite.S128x192 .f32} {x5 y5 : FVec Ideal Cert.Pre_apart_and_finite.S128 .f32} {x6 y6 : FVec Ideal Cert.Pre_apart_and_finite.S128 .f32} {x7 y7 : FVec Ideal Cert.Pre_apart_and_finite.S128 .f32} {x8 y8 : FVec Ideal Cert.Pre_apart_and_finite.S128x128 .f32} {x9 y9 : FVec Ideal Cert.Pre_apart_and_finite.S128 .f32} {x10 y10 : FVec Ideal Cert.Pre_apart_and_finite.S128 .f32} {x11 y11 : FVec Ideal Cert.Pre_apart_and_finite.S128 .f32}
    (h0 : x0 = y0) (h1 : x1 = y1) (h2 : x2 = y2) (h3 : x3 = y3) (h4 : x4 = y4) (h5 : x5 = y5) (h6 : x6 = y6) (h7 : x7 = y7) (h8 : x8 = y8) (h9 : x9 = y9) (h10 : x10 = y10) (h11 : x11 = y11) :
    (⟨fun b n d => x0 (ix3 b n d), fun b a d => x1 (ix3 b a d), fun b k n => x2 (ix3 b k n), fun b k a => x3 (ix3 b k a), fun o k => x4 (ix2 o k),
      fun o => x6 (ix1 o), fun o => x7 (ix1 o), fun o k => x8 (ix2 o k), fun o => x10 (ix1 o), fun o => x11 (ix1 o)⟩ : Inputs)
    = ⟨fun b n d => y0 (ix3 b n d), fun b a d => y1 (ix3 b a d), fun b k n => y2 (ix3 b k n), fun b k a => y3 (ix3 b k a), fun o k => y4 (ix2 o k),
      fun o => y6 (ix1 o), fun o => y7 (ix1 o), fun o k => y8 (ix2 o k), fun o => y10 (ix1 o), fun o => y11 (ix1 o)⟩ := by
  rw [h0, h1, h2, h3, h4, h6, h7, h8, h10, h11]
/-- and equal answers of the precondition. -/
theorem answer_congr {x0 y0 : FVec Ideal Cert.Pre_apart_and_finite.S4x8192x3 .f32} {x1 y1 : FVec Ideal Cert.Pre_apart_and_finite.S4x2048x3 .f32} {x2 y2 : FVec Ideal Cert.Pre_apart_and_finite.S4x64x8192 .f32} {x3 y3 : FVec Ideal Cert.Pre_apart_and_finite.S4x128x2048 .f32} {x4 y4 : FVec Ideal Cert.Pre_apart_and_finite.S128x192 .f32} {x5 y5 : FVec Ideal Cert.Pre_apart_and_finite.S128 .f32} {x6 y6 : FVec Ideal Cert.Pre_apart_and_finite.S128 .f32} {x7 y7 : FVec Ideal Cert.Pre_apart_and_finite.S128 .f32} {x8 y8 : FVec Ideal Cert.Pre_apart_and_finite.S128x128 .f32} {x9 y9 : FVec Ideal Cert.Pre_apart_and_finite.S128 .f32} {x10 y10 : FVec Ideal Cert.Pre_apart_and_finite.S128 .f32} {x11 y11 : FVec Ideal Cert.Pre_apart_and_finite.S128 .f32}
    (h0 : x0 = y0) (h1 : x1 = y1) (h2 : x2 = y2) (h3 : x3 = y3) (h4 : x4 = y4) (h5 : x5 = y5) (h6 : x6 = y6) (h7 : x7 = y7) (h8 : x8 = y8) (h9 : x9 = y9) (h10 : x10 = y10) (h11 : x11 = y11) :
    Cert.Pre_apart_and_finite.fn (F := Ideal) x0 x1 x2 x3 x4 x5 x6 x7 x8 x9 x10 x11 = Cert.Pre_apart_and_finite.fn (F := Ideal) y0 y1 y2 y3 y4 y5 y6 y7 y8 y9 y10 y11 := by
  rw [h0, h1, h2, h3, h4, h5, h6, h7, h8, h9, h10, h11]

section
variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)

/-- The two programs' arguments are the same. -/
abbrev Same : Prop :=
  m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0)
    ∧ m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1)
    ∧ m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2)
    ∧ m' ((c.tc : Thread Cert.ReferenceIdeal.nD Cert.ReferenceIdeal.τ).loc Cert.ReferenceIdeal.main_arg3)
      = m ((c.tc : Thread Cert.KernelIdeal.nD Cert.KernelIdeal.τ).loc Cert.KernelIdeal.main_arg3)
    ∧ m' ((c.tc : Thread Cert.ReferenceIdeal.nD Cert.ReferenceIdeal.τ).loc Cert.ReferenceIdeal.main_arg4)
      = m ((c.tc : Thread Cert.KernelIdeal.nD Cert.KernelIdeal.τ).loc Cert.KernelIdeal.main_arg4)
    ∧ m' ((c.tc : Thread Cert.ReferenceIdeal.nD Cert.ReferenceIdeal.τ).loc Cert.ReferenceIdeal.main_arg5)
      = m ((c.tc : Thread Cert.KernelIdeal.nD Cert.KernelIdeal.τ).loc Cert.KernelIdeal.main_arg5)
    ∧ m' ((c.tc : Thread Cert.ReferenceIdeal.nD Cert.ReferenceIdeal.τ).loc Cert.ReferenceIdeal.main_arg6)
      = m ((c.tc : Thread Cert.KernelIdeal.nD Cert.KernelIdeal.τ).loc Cert.KernelIdeal.main_arg6)
    ∧ m' ((c.tc : Thread Cert.ReferenceIdeal.nD Cert.ReferenceIdeal.τ).loc Cert.ReferenceIdeal.main_arg7)
      = m ((c.tc : Thread Cert.KernelIdeal.nD Cert.KernelIdeal.τ).loc Cert.KernelIdeal.main_arg7)
    ∧ m' ((c.tc : Thread Cert.ReferenceIdeal.nD Cert.ReferenceIdeal.τ).loc Cert.ReferenceIdeal.main_arg8)
      = m ((c.tc : Thread Cert.KernelIdeal.nD Cert.KernelIdeal.τ).loc Cert.KernelIdeal.main_arg8)
    ∧ m' ((c.tc : Thread Cert.ReferenceIdeal.nD Cert.ReferenceIdeal.τ).loc Cert.ReferenceIdeal.main_arg9)
      = m ((c.tc : Thread Cert.KernelIdeal.nD Cert.KernelIdeal.τ).loc Cert.KernelIdeal.main_arg9)
    ∧ m' ((c.tc : Thread Cert.ReferenceIdeal.nD Cert.ReferenceIdeal.τ).loc Cert.ReferenceIdeal.main_arg10)
      = m ((c.tc : Thread Cert.KernelIdeal.nD Cert.KernelIdeal.τ).loc Cert.KernelIdeal.main_arg10)
    ∧ m' ((c.tc : Thread Cert.ReferenceIdeal.nD Cert.ReferenceIdeal.τ).loc Cert.ReferenceIdeal.main_arg11)
      = m ((c.tc : Thread Cert.KernelIdeal.nD Cert.KernelIdeal.τ).loc Cert.KernelIdeal.main_arg11)

theorem inputs_same (h : Same m m' c) : Cert.ReferenceIdeal.Value.inputs (StableHlo.launchContents m' c) = Cert.KernelIdeal.Value.inputs m c := by
  obtain ⟨h0, h1, h2, h3, h4, h5, h6, h7, h8, h9, h10, h11⟩ := h
  exact inputs_congr h0 h1 h2 h3 h4 h5 h6 h7 h8 h9 h10 h11

/-- The precondition of the kernel's arguments is what the reference's values need. -/
theorem given_same (hpre : Cert.Pre_KernelIdeal_apart_and_finite m) (h : Same m m' c) : Cert.ReferenceIdeal.Value.Given (StableHlo.launchContents m' c) := by
  obtain ⟨h0, h1, h2, h3, h4, h5, h6, h7, h8, h9, h10, h11⟩ := h
  have e : Cert.ReferenceIdeal.Value.answer (StableHlo.launchContents m' c) = Cert.Pre_apart_and_finite.fn (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11)) := answer_congr h0 h1 h2 h3 h4 h5 h6 h7 h8 h9 h10 h11
  refine Cert.ReferenceIdeal.Value.given_of _ ?_
  rw [e]
  exact hpre c
end

/-- The kernel and the reference end with the same result, their arguments as launched. -/
theorem same_result : Cert.algebraic_KernelIdeal_ReferenceIdeal_pre_apart_and_finite := fun m ρ m' ρ' hpre hargs =>
  ⟨fun c => outcome (Cert.KernelIdeal.Value.inputs m c),
    (θ_run Cert.KernelIdeal.defs _ _).mono (fun r h => fun c =>
    ⟨(h.1 c _ (Cert.KernelIdeal.Steps.mem_uc Cert.KernelIdeal.main_v8 (by decide))).trans (Cert.KernelIdeal.Value.result m ρ c),
    Cert.KernelIdeal.Steps.arg_kept m ρ h.1 c Cert.KernelIdeal.main_arg0 (by decide) (by decide),
    Cert.KernelIdeal.Steps.arg_kept m ρ h.1 c Cert.KernelIdeal.main_arg1 (by decide) (by decide),
    Cert.KernelIdeal.Steps.arg_kept m ρ h.1 c Cert.KernelIdeal.main_arg2 (by decide) (by decide),
    Cert.KernelIdeal.Steps.arg_kept m ρ h.1 c Cert.KernelIdeal.main_arg3 (by decide) (by decide),
    Cert.KernelIdeal.Steps.arg_kept m ρ h.1 c Cert.KernelIdeal.main_arg4 (by decide) (by decide),
    Cert.KernelIdeal.Steps.arg_kept m ρ h.1 c Cert.KernelIdeal.main_arg5 (by decide) (by decide),
    Cert.KernelIdeal.Steps.arg_kept m ρ h.1 c Cert.KernelIdeal.main_arg6 (by decide) (by decide),
    Cert.KernelIdeal.Steps.arg_kept m ρ h.1 c Cert.KernelIdeal.main_arg7 (by decide) (by decide),
    Cert.KernelIdeal.Steps.arg_kept m ρ h.1 c Cert.KernelIdeal.main_arg8 (by decide) (by decide),
    Cert.KernelIdeal.Steps.arg_kept m ρ h.1 c Cert.KernelIdeal.main_arg9 (by decide) (by decide),
    Cert.KernelIdeal.Steps.arg_kept m ρ h.1 c Cert.KernelIdeal.main_arg10 (by decide) (by decide),
    Cert.KernelIdeal.Steps.arg_kept m ρ h.1 c Cert.KernelIdeal.main_arg11 (by decide) (by decide)⟩) (Cert.KernelIdeal.Steps.ends (F := Ideal) m ρ),
    (θ_run Cert.ReferenceIdeal.defs _ _).mono (fun r h => fun c =>
    ⟨((h c).1.trans (reference_result (StableHlo.launchContents m' c) (given_same m m' c hpre (hargs c)))).trans
      (congrArg outcome (inputs_same m m' c (hargs c))), (h c).2⟩) (Cert.ReferenceIdeal.Value.run (F := Ideal) m' ρ')⟩

end Cert.Proof
-- ==== Proof.lean ====
module

public import proofs.«01_k».proof.Defs
public import proofs.«01_k».proof.Proof.Frames
public import proofs.«01_k».proof.Proof.Algebraic

@[expose] public section

theorem Cert.Proof.claim : Cert.Claim :=
  ⟨Cert.Kernel.Gen.facts, Cert.KernelIdeal.Gen.facts, Cert.ReferenceIdeal.Gen.facts, Cert.Proof.preFacts,
    frame_Kernel, frame_KernelIdeal, fun m ρ _ => frame_KernelIdeal m ρ trivial, frame_ReferenceIdeal,
    fun m ρ _ => frame_ReferenceIdeal m ρ trivial, trivial, same_result⟩
